-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 512, 32, 64]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 512, 32, 64]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S2x512x768 : Shape := ⟨3, ![2, 512, 768]⟩
abbrev S768x2048 : Shape := ⟨2, ![768, 2048]⟩
abbrev S2x512x8x64 : Shape := ⟨4, ![2, 512, 8, 64]⟩
abbrev S2048x768 : Shape := ⟨2, ![2048, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x2048 : S_.BroadcastsInDim S768x2048 (![] : Fin 0 → Fin S768x2048.rank)
  reducesTo_S768x2048_S_d0_1 : S768x2048.ReducesTo [0, 1] S_
  bcast_S_S2x512x8x64 : S_.BroadcastsInDim S2x512x8x64 (![] : Fin 0 → Fin S2x512x8x64.rank)
  reducesTo_S2x512x8x64_S_d0_1_2_3 : S2x512x8x64.ReducesTo [0, 1, 2, 3] S_

variable [Facts]

def fn {F : FTy → Type} [FloatOps F] (main_arg0 : FVec F S2x512x768 .f32) (main_arg1 : FVec F S768x2048 .f32) (main_arg2 : FVec F S2x512x8x64 .f32) (main_arg3 : FVec F S2x512x8x64 .f32) (main_arg4 : FVec F S2048x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x2048 .f32 := Host.absf main_arg1
  let main_cst_0 : FVec F S_ .f32 := constant S_ .f32 0x7F800000#32
  let main_v5 : FVec F S768x2048 .f32 := broadcastInDim S768x2048 ![] bcast_S_S768x2048 main_cst_0
  let main_v6 : IVec S768x2048 1 := cmpf .olt main_v4 main_v5
  let main_c_1 : IVec S_ 1 := constantI S_ 1 1#1
  let main_v7 : IVec S_ 1 := (fun x v => Host.reduce IntOp.andi x v reducesTo_S768x2048_S_d0_1 h_S_) main_v6 main_c_1
  let main_v8 : IVec S_ 1 := andi main_v3 main_v7
  let main_v9 : FVec F S2x512x8x64 .f32 := Host.absf main_arg2
  let main_cst_2 : FVec F S_ .f32 := constant S_ .f32 0x7F800000#32
  let main_v10 : FVec F S2x512x8x64 .f32 := broadcastInDim S2x512x8x64 ![] bcast_S_S2x512x8x64 main_cst_2
  let main_v11 : IVec S2x512x8x64 1 := cmpf .olt main_v9 main_v10
  let main_c_3 : IVec S_ 1 := constantI S_ 1 1#1
  let main_v12 : IVec S_ 1 := (fun x v => Host.reduce IntOp.andi x v reducesTo_S2x512x8x64_S_d0_1_2_3 h_S_) main_v11 main_c_3
  let main_v13 : IVec S_ 1 := andi main_v8 main_v12
  main_v13
-- ==== Pre_scores_finite_ReferenceIdeal.lean ====
abbrev S2x512x768 : Shape := ⟨3, ![2, 512, 768]⟩
abbrev S768x2048 : Shape := ⟨2, ![768, 2048]⟩
abbrev S2x512x32x64 : Shape := ⟨4, ![2, 512, 32, 64]⟩
abbrev S2048x768 : Shape := ⟨2, ![2048, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x2048 : S_.BroadcastsInDim S768x2048 (![] : Fin 0 → Fin S768x2048.rank)
  reducesTo_S768x2048_S_d0_1 : S768x2048.ReducesTo [0, 1] S_
  bcast_S_S2x512x32x64 : S_.BroadcastsInDim S2x512x32x64 (![] : Fin 0 → Fin S2x512x32x64.rank)
  reducesTo_S2x512x32x64_S_d0_1_2_3 : S2x512x32x64.ReducesTo [0, 1, 2, 3] S_

variable [Facts]

def fn {F : FTy → Type} [FloatOps F] (main_arg0 : FVec F S2x512x768 .f32) (main_arg1 : FVec F S768x2048 .f32) (main_arg2 : FVec F S2x512x32x64 .f32) (main_arg3 : FVec F S2x512x32x64 .f32) (main_arg4 : FVec F S2048x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x2048 .f32 := Host.absf main_arg1
  let main_cst_0 : FVec F S_ .f32 := constant S_ .f32 0x7F800000#32
  let main_v5 : FVec F S768x2048 .f32 := broadcastInDim S768x2048 ![] bcast_S_S768x2048 main_cst_0
  let main_v6 : IVec S768x2048 1 := cmpf .olt main_v4 main_v5
  let main_c_1 : IVec S_ 1 := constantI S_ 1 1#1
  let main_v7 : IVec S_ 1 := (fun x v => Host.reduce IntOp.andi x v reducesTo_S768x2048_S_d0_1 h_S_) main_v6 main_c_1
  let main_v8 : IVec S_ 1 := andi main_v3 main_v7
  let main_v9 : FVec F S2x512x32x64 .f32 := Host.absf main_arg2
  let main_cst_2 : FVec F S_ .f32 := constant S_ .f32 0x7F800000#32
  let main_v10 : FVec F S2x512x32x64 .f32 := broadcastInDim S2x512x32x64 ![] bcast_S_S2x512x32x64 main_cst_2
  let main_v11 : IVec S2x512x32x64 1 := cmpf .olt main_v9 main_v10
  let main_c_3 : IVec S_ 1 := constantI S_ 1 1#1
  let main_v12 : IVec S_ 1 := (fun x v => Host.reduce IntOp.andi x v reducesTo_S2x512x32x64_S_d0_1_2_3 h_S_) main_v11 main_c_3
  let main_v13 : IVec S_ 1 := andi main_v8 main_v12
  main_v13
-- ==== Kernel.lean ====
abbrev S2x512x768 : Shape := ⟨3, ![2, 512, 768]⟩
abbrev S768x2048 : Shape := ⟨2, ![768, 2048]⟩
abbrev S2x512x8x64 : Shape := ⟨4, ![2, 512, 8, 64]⟩
abbrev S2048x768 : Shape := ⟨2, ![2048, 768]⟩
abbrev S2x128x768 : Shape := ⟨3, ![2, 128, 768]⟩
abbrev S2x64x768 : Shape := ⟨3, ![2, 64, 768]⟩
abbrev S8 : Shape := ⟨1, ![8]⟩
abbrev S_ : Shape := ⟨0, ![]⟩
abbrev S768x512 : Shape := ⟨2, ![768, 512]⟩
abbrev S512x768 : Shape := ⟨2, ![512, 768]⟩
abbrev S1x512x768 : Shape := ⟨3, ![1, 512, 768]⟩
abbrev S512x512 : Shape := ⟨2, ![512, 512]⟩
abbrev S64x512 : Shape := ⟨2, ![64, 512]⟩
abbrev S1x512x8x64 : Shape := ⟨4, ![1, 512, 8, 64]⟩
abbrev S512x8x64 : Shape := ⟨3, ![512, 8, 64]⟩
abbrev S64x8x64 : Shape := ⟨3, ![64, 8, 64]⟩
abbrev S128x64 : Shape := ⟨2, ![128, 64]⟩
abbrev S128x1x64 : Shape := ⟨3, ![128, 1, 64]⟩
abbrev S128x128 : Shape := ⟨2, ![128, 128]⟩
abbrev S128 : Shape := ⟨1, ![128]⟩
abbrev S128x1 : Shape := ⟨2, ![128, 1]⟩
abbrev S512x64 : Shape := ⟨2, ![512, 64]⟩
abbrev S1 : Shape := ⟨1, ![1]⟩

abbrev nBuf : Space → Nat
  | .hbm => 6
  | .vmem => 14
  | .smem => 0
  | _ => 0

abbrev bufTy : (tb : Table) → Fin (tcTables nBuf tb) → BufTy
  | .hbm, ⟨0, _⟩ => ⟨S2x512x768, .f32⟩
  | .hbm, ⟨1, _⟩ => ⟨S768x2048, .f32⟩
  | .hbm, ⟨2, _⟩ => ⟨S2x512x8x64, .f32⟩
  | .hbm, ⟨3, _⟩ => ⟨S2x512x8x64, .f32⟩
  | .hbm, ⟨4, _⟩ => ⟨S2048x768, .f32⟩
  | .hbm, ⟨5, _⟩ => ⟨S2x512x768, .f32⟩
  | .local _ .vmem, ⟨0, _⟩ => ⟨S2x512x768, .f32⟩
  | .local _ .vmem, ⟨1, _⟩ => ⟨S768x2048, .f32⟩
  | .local _ .vmem, ⟨2, _⟩ => ⟨S2x512x8x64, .f32⟩
  | .local _ .vmem, ⟨3, _⟩ => ⟨S2x512x8x64, .f32⟩
  | .local _ .vmem, ⟨4, _⟩ => ⟨S2048x768, .f32⟩
  | .local _ .vmem, ⟨5, _⟩ => ⟨S2x512x768, .f32⟩
  | .local _ .vmem, ⟨6, _⟩ => ⟨S2x128x768, .f32⟩
  | .local _ .vmem, ⟨7, _⟩ => ⟨S2x128x768, .f32⟩
  | .local _ .vmem, ⟨8, _⟩ => ⟨S2x64x768, .f32⟩
  | .local _ .vmem, ⟨9, _⟩ => ⟨S2x64x768, .f32⟩
  | .local _ .vmem, ⟨10, _⟩ => ⟨S2x64x768, .f32⟩
  | .local _ .vmem, ⟨11, _⟩ => ⟨S2x64x768, .f32⟩
  | .local _ .vmem, ⟨12, _⟩ => ⟨S2x128x768, .f32⟩
  | .local _ .vmem, ⟨13, _⟩ => ⟨S2x128x768, .f32⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_off1 (d0 : Dev nD) : Fin 2 → Nat :=
  let c0 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v10 : BitVec 32 := Scalar.muli v2 c512_i32
  let v11 : Index := Scalar.indexCast v10
  ![0, v11.toNat]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_6 : BitVec 32 := 512#32
  let v14 : BitVec 32 := Scalar.muli v2 c512_i32_6
  let v15 : Index := Scalar.indexCast v14
  let c0_7 : Index := 0#32
  ![v15.toNat, 0]
def k0_off3 (d0 : Dev nD) : Fin 3 → Nat :=
  let c0_i32_384 : BitVec 32 := 0#32
  let c128_i32_361 : BitVec 32 := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_358 : BitVec 32 := 0#32
  let v1154 : BitVec 1 := Scalar.cmpi .eq v2 c0_i32_358
  let c3_i32_359 : BitVec 32 := 3#32
  let v1155 : BitVec 1 := Scalar.cmpi .eq v2 c3_i32_359
  let v1156 : BitVec 1 := Scalar.ori v1154 v1155
  let c0_i32_360 : BitVec 32 := 0#32
  let c128_i32 : BitVec 32 := 128#32
  let v1157 : BitVec 32 := Scalar.select v1156 c0_i32_360 c128_i32
  let v1158 : BitVec 32 := Scalar.subi c128_i32_361 v1157
  let c0_i32_385 : BitVec 32 := 0#32
  ![0, v1158.toNat, 0]
def k0_dev3 (d0 : Dev nD) : Nat :=
  let c0_i32_383 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_382 : BitVec 32 := 1#32
  let v1185 : BitVec 32 := Scalar.muli v3 c1_i32_382
  let v1186 : BitVec 32 := Scalar.addi c0_i32_383 v1185
  v1186.toNat
def k0_off4 (d0 : Dev nD) : Fin 3 → Nat :=
  let c0_i32_390 : BitVec 32 := 0#32
  let c640_i32 : BitVec 32 := 640#32
  let c256_i32 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_366 : BitVec 32 := 1#32
  let v1165 : BitVec 1 := Scalar.cmpi .sle v2 c1_i32_366
  let c0_i32_367 : BitVec 32 := 0#32
  let c128_i32_368 : BitVec 32 := 128#32
  let v1166 : BitVec 32 := Scalar.select v1165 c0_i32_367 c128_i32_368
  let v1167 : BitVec 32 := Scalar.addi c256_i32 v1166
  let v1168 : BitVec 32 := Scalar.subi c640_i32 v1167
  let c0_i32_391 : BitVec 32 := 0#32
  ![0, v1168.toNat, 0]
def k0_dev4 (d0 : Dev nD) : Nat :=
  let c0_i32_389 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_388 : BitVec 32 := 1#32
  let v1192 : BitVec 32 := Scalar.muli v4 c1_i32_388
  let v1193 : BitVec 32 := Scalar.addi c0_i32_389 v1192
  v1193.toNat
def k0_off5 (d0 : Dev nD) : Fin 3 → Nat :=
  let c0_414 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_358 : BitVec 32 := 0#32
  let v1154 : BitVec 1 := Scalar.cmpi .eq v2 c0_i32_358
  let c3_i32_359 : BitVec 32 := 3#32
  let v1155 : BitVec 1 := Scalar.cmpi .eq v2 c3_i32_359
  let v1156 : BitVec 1 := Scalar.ori v1154 v1155
  let c0_i32_360 : BitVec 32 := 0#32
  let c128_i32 : BitVec 32 := 128#32
  let v1157 : BitVec 32 := Scalar.select v1156 c0_i32_360 c128_i32
  let v1215 : Index := Scalar.indexCast v1157
  let c0_415 : Index := 0#32
  ![0, v1215.toNat, 0]
def k0_off6 (d0 : Dev nD) : Fin 3 → Nat :=
  let c0_421 : Index := 0#32
  let c256_i32 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_366 : BitVec 32 := 1#32
  let v1165 : BitVec 1 := Scalar.cmpi .sle v2 c1_i32_366
  let c0_i32_367 : BitVec 32 := 0#32
  let c128_i32_368 : BitVec 32 := 128#32
  let v1166 : BitVec 32 := Scalar.select v1165 c0_i32_367 c128_i32_368
  let v1167 : BitVec 32 := Scalar.addi c256_i32 v1166
  let v1222 : Index := Scalar.indexCast v1167
  let c0_422 : Index := 0#32
  ![0, v1222.toNat, 0]
def k0_off7 (d0 : Dev nD) : Fin 3 → Nat :=
  let c0_i32_432 : BitVec 32 := 0#32
  let c2_i32_364 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_358 : BitVec 32 := 0#32
  let v1154 : BitVec 1 := Scalar.cmpi .eq v2 c0_i32_358
  let c3_i32_359 : BitVec 32 := 3#32
  let v1155 : BitVec 1 := Scalar.cmpi .eq v2 c3_i32_359
  let v1156 : BitVec 1 := Scalar.ori v1154 v1155
  let c0_i32_360 : BitVec 32 := 0#32
  let c128_i32 : BitVec 32 := 128#32
  let v1157 : BitVec 32 := Scalar.select v1156 c0_i32_360 c128_i32
  let v1162 : BitVec 32 := Scalar.muli c2_i32_364 v1157
  let c64_i32_365 : BitVec 32 := 64#32
  let v1163 : BitVec 32 := Scalar.addi v1162 c64_i32_365
  let c1_i32_362 : BitVec 32 := 1#32
  let v1159 : BitVec 1 := Scalar.cmpi .sle v2 c1_i32_362
  let c0_i32_363 : BitVec 32 := 0#32
  let c64_i32 : BitVec 32 := 64#32
  let v1160 : BitVec 32 := Scalar.select v1159 c0_i32_363 c64_i32
  let v1161 : BitVec 32 := Scalar.addi v1157 v1160
  let v1164 : BitVec 32 := Scalar.subi v1163 v1161
  let c0_i32_433 : BitVec 32 := 0#32
  ![0, v1164.toNat, 0]
def k0_dev5 (d0 : Dev nD) : Nat :=
  let c0_i32_431 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_430 : BitVec 32 := 1#32
  let v1229 : BitVec 32 := Scalar.muli v4 c1_i32_430
  let v1230 : BitVec 32 := Scalar.addi c0_i32_431 v1229
  v1230.toNat
def k0_off8 (d0 : Dev nD) : Fin 3 → Nat :=
  let c0_i32_438 : BitVec 32 := 0#32
  let c2_i32_378 : BitVec 32 := 2#32
  let c256_i32 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_366 : BitVec 32 := 1#32
  let v1165 : BitVec 1 := Scalar.cmpi .sle v2 c1_i32_366
  let c0_i32_367 : BitVec 32 := 0#32
  let c128_i32_368 : BitVec 32 := 128#32
  let v1166 : BitVec 32 := Scalar.select v1165 c0_i32_367 c128_i32_368
  let v1167 : BitVec 32 := Scalar.addi c256_i32 v1166
  let v1182 : BitVec 32 := Scalar.muli c2_i32_378 v1167
  let c64_i32_379 : BitVec 32 := 64#32
  let v1183 : BitVec 32 := Scalar.addi v1182 c64_i32_379
  let c2_i32_369 : BitVec 32 := 2#32
  let c0_i32_370 : BitVec 32 := 0#32
  let v1169 : BitVec 1 := Scalar.cmpi .eq c2_i32_369 c0_i32_370
  let c1_i32_371 : BitVec 32 := 1#32
  let v1170 : BitVec 32 := Scalar.select v1169 c1_i32_371 c2_i32_369
  let v1171 : BitVec 32 := Scalar.remsi v2 v1170
  let c0_i32_373 : BitVec 32 := 0#32
  let v1173 : BitVec 1 := Scalar.cmpi .slt v1171 c0_i32_373
  let c0_i32_374 : BitVec 32 := 0#32
  let v1174 : BitVec 1 := Scalar.cmpi .slt v1170 c0_i32_374
  let v1175 : BitVec 1 := Scalar.xori v1173 v1174
  let c0_i32_372 : BitVec 32 := 0#32
  let v1172 : BitVec 1 := Scalar.cmpi .ne v1171 c0_i32_372
  let v1176 : BitVec 1 := Scalar.andi v1175 v1172
  let v1177 : BitVec 32 := Scalar.addi v1171 v1170
  let v1178 : BitVec 32 := Scalar.select v1176 v1177 v1171
  let c0_i32_375 : BitVec 32 := 0#32
  let v1179 : BitVec 1 := Scalar.cmpi .eq v1178 c0_i32_375
  let c0_i32_376 : BitVec 32 := 0#32
  let c64_i32_377 : BitVec 32 := 64#32
  let v1180 : BitVec 32 := Scalar.select v1179 c0_i32_376 c64_i32_377
  let v1181 : BitVec 32 := Scalar.addi v1167 v1180
  let v1184 : BitVec 32 := Scalar.subi v1183 v1181
  let c0_i32_439 : BitVec 32 := 0#32
  ![0, v1184.toNat, 0]
def k0_dev6 (d0 : Dev nD) : Nat :=
  let c0_i32_437 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_436 : BitVec 32 := 1#32
  let v1236 : BitVec 32 := Scalar.muli v3 c1_i32_436
  let v1237 : BitVec 32 := Scalar.addi c0_i32_437 v1236
  v1237.toNat
def k0_off9 (d0 : Dev nD) : Fin 3 → Nat :=
  let c0_462 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_358 : BitVec 32 := 0#32
  let v1154 : BitVec 1 := Scalar.cmpi .eq v2 c0_i32_358
  let c3_i32_359 : BitVec 32 := 3#32
  let v1155 : BitVec 1 := Scalar.cmpi .eq v2 c3_i32_359
  let v1156 : BitVec 1 := Scalar.ori v1154 v1155
  let c0_i32_360 : BitVec 32 := 0#32
  let c128_i32 : BitVec 32 := 128#32
  let v1157 : BitVec 32 := Scalar.select v1156 c0_i32_360 c128_i32
  let c1_i32_362 : BitVec 32 := 1#32
  let v1159 : BitVec 1 := Scalar.cmpi .sle v2 c1_i32_362
  let c0_i32_363 : BitVec 32 := 0#32
  let c64_i32 : BitVec 32 := 64#32
  let v1160 : BitVec 32 := Scalar.select v1159 c0_i32_363 c64_i32
  let v1161 : BitVec 32 := Scalar.addi v1157 v1160
  let v1259 : Index := Scalar.indexCast v1161
  let c0_463 : Index := 0#32
  ![0, v1259.toNat, 0]
def k0_off10 (d0 : Dev nD) : Fin 3 → Nat :=
  let c0_469 : Index := 0#32
  let c256_i32 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_366 : BitVec 32 := 1#32
  let v1165 : BitVec 1 := Scalar.cmpi .sle v2 c1_i32_366
  let c0_i32_367 : BitVec 32 := 0#32
  let c128_i32_368 : BitVec 32 := 128#32
  let v1166 : BitVec 32 := Scalar.select v1165 c0_i32_367 c128_i32_368
  let v1167 : BitVec 32 := Scalar.addi c256_i32 v1166
  let c2_i32_369 : BitVec 32 := 2#32
  let c0_i32_370 : BitVec 32 := 0#32
  let v1169 : BitVec 1 := Scalar.cmpi .eq c2_i32_369 c0_i32_370
  let c1_i32_371 : BitVec 32 := 1#32
  let v1170 : BitVec 32 := Scalar.select v1169 c1_i32_371 c2_i32_369
  let v1171 : BitVec 32 := Scalar.remsi v2 v1170
  let c0_i32_373 : BitVec 32 := 0#32
  let v1173 : BitVec 1 := Scalar.cmpi .slt v1171 c0_i32_373
  let c0_i32_374 : BitVec 32 := 0#32
  let v1174 : BitVec 1 := Scalar.cmpi .slt v1170 c0_i32_374
  let v1175 : BitVec 1 := Scalar.xori v1173 v1174
  let c0_i32_372 : BitVec 32 := 0#32
  let v1172 : BitVec 1 := Scalar.cmpi .ne v1171 c0_i32_372
  let v1176 : BitVec 1 := Scalar.andi v1175 v1172
  let v1177 : BitVec 32 := Scalar.addi v1171 v1170
  let v1178 : BitVec 32 := Scalar.select v1176 v1177 v1171
  let c0_i32_375 : BitVec 32 := 0#32
  let v1179 : BitVec 1 := Scalar.cmpi .eq v1178 c0_i32_375
  let c0_i32_376 : BitVec 32 := 0#32
  let c64_i32_377 : BitVec 32 := 64#32
  let v1180 : BitVec 32 := Scalar.select v1179 c0_i32_376 c64_i32_377
  let v1181 : BitVec 32 := Scalar.addi v1167 v1180
  let v1266 : Index := Scalar.indexCast v1181
  let c0_470 : Index := 0#32
  ![0, v1266.toNat, 0]
def k0_off11 (d0 : Dev nD) : Fin 3 → Nat :=
  let c0_i32_480 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_358 : BitVec 32 := 0#32
  let v1154 : BitVec 1 := Scalar.cmpi .eq v2 c0_i32_358
  let c3_i32_359 : BitVec 32 := 3#32
  let v1155 : BitVec 1 := Scalar.cmpi .eq v2 c3_i32_359
  let v1156 : BitVec 1 := Scalar.ori v1154 v1155
  let c0_i32_360 : BitVec 32 := 0#32
  let c128_i32 : BitVec 32 := 128#32
  let v1157 : BitVec 32 := Scalar.select v1156 c0_i32_360 c128_i32
  let c1_i32_362 : BitVec 32 := 1#32
  let v1159 : BitVec 1 := Scalar.cmpi .sle v2 c1_i32_362
  let c0_i32_363 : BitVec 32 := 0#32
  let c64_i32 : BitVec 32 := 64#32
  let v1160 : BitVec 32 := Scalar.select v1159 c0_i32_363 c64_i32
  let v1161 : BitVec 32 := Scalar.addi v1157 v1160
  let c0_i32_481 : BitVec 32 := 0#32
  ![0, v1161.toNat, 0]
def k0_dev7 (d0 : Dev nD) : Nat :=
  let c0_i32_479 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_478 : BitVec 32 := 1#32
  let v1273 : BitVec 32 := Scalar.muli v4 c1_i32_478
  let v1274 : BitVec 32 := Scalar.addi c0_i32_479 v1273
  v1274.toNat
def k0_off12 (d0 : Dev nD) : Fin 3 → Nat :=
  let c0_i32_485 : BitVec 32 := 0#32
  let c256_i32 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_366 : BitVec 32 := 1#32
  let v1165 : BitVec 1 := Scalar.cmpi .sle v2 c1_i32_366
  let c0_i32_367 : BitVec 32 := 0#32
  let c128_i32_368 : BitVec 32 := 128#32
  let v1166 : BitVec 32 := Scalar.select v1165 c0_i32_367 c128_i32_368
  let v1167 : BitVec 32 := Scalar.addi c256_i32 v1166
  let c2_i32_369 : BitVec 32 := 2#32
  let c0_i32_370 : BitVec 32 := 0#32
  let v1169 : BitVec 1 := Scalar.cmpi .eq c2_i32_369 c0_i32_370
  let c1_i32_371 : BitVec 32 := 1#32
  let v1170 : BitVec 32 := Scalar.select v1169 c1_i32_371 c2_i32_369
  let v1171 : BitVec 32 := Scalar.remsi v2 v1170
  let c0_i32_373 : BitVec 32 := 0#32
  let v1173 : BitVec 1 := Scalar.cmpi .slt v1171 c0_i32_373
  let c0_i32_374 : BitVec 32 := 0#32
  let v1174 : BitVec 1 := Scalar.cmpi .slt v1170 c0_i32_374
  let v1175 : BitVec 1 := Scalar.xori v1173 v1174
  let c0_i32_372 : BitVec 32 := 0#32
  let v1172 : BitVec 1 := Scalar.cmpi .ne v1171 c0_i32_372
  let v1176 : BitVec 1 := Scalar.andi v1175 v1172
  let v1177 : BitVec 32 := Scalar.addi v1171 v1170
  let v1178 : BitVec 32 := Scalar.select v1176 v1177 v1171
  let c0_i32_375 : BitVec 32 := 0#32
  let v1179 : BitVec 1 := Scalar.cmpi .eq v1178 c0_i32_375
  let c0_i32_376 : BitVec 32 := 0#32
  let c64_i32_377 : BitVec 32 := 64#32
  let v1180 : BitVec 32 := Scalar.select v1179 c0_i32_376 c64_i32_377
  let v1181 : BitVec 32 := Scalar.addi v1167 v1180
  let c0_i32_486 : BitVec 32 := 0#32
  ![0, v1181.toNat, 0]
def k0_dev8 (d0 : Dev nD) : Nat :=
  let c0_i32_484 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_483 : BitVec 32 := 1#32
  let v1280 : BitVec 32 := Scalar.muli v3 c1_i32_483
  let v1281 : BitVec 32 := Scalar.addi c0_i32_484 v1280
  v1281.toNat
def k0_off13 (d0 : Dev nD) : Fin 3 → Nat :=
  let c0_512 : Index := 0#32
  let c2_i32_364 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_358 : BitVec 32 := 0#32
  let v1154 : BitVec 1 := Scalar.cmpi .eq v2 c0_i32_358
  let c3_i32_359 : BitVec 32 := 3#32
  let v1155 : BitVec 1 := Scalar.cmpi .eq v2 c3_i32_359
  let v1156 : BitVec 1 := Scalar.ori v1154 v1155
  let c0_i32_360 : BitVec 32 := 0#32
  let c128_i32 : BitVec 32 := 128#32
  let v1157 : BitVec 32 := Scalar.select v1156 c0_i32_360 c128_i32
  let v1162 : BitVec 32 := Scalar.muli c2_i32_364 v1157
  let c64_i32_365 : BitVec 32 := 64#32
  let v1163 : BitVec 32 := Scalar.addi v1162 c64_i32_365
  let c1_i32_362 : BitVec 32 := 1#32
  let v1159 : BitVec 1 := Scalar.cmpi .sle v2 c1_i32_362
  let c0_i32_363 : BitVec 32 := 0#32
  let c64_i32 : BitVec 32 := 64#32
  let v1160 : BitVec 32 := Scalar.select v1159 c0_i32_363 c64_i32
  let v1161 : BitVec 32 := Scalar.addi v1157 v1160
  let v1164 : BitVec 32 := Scalar.subi v1163 v1161
  let v1304 : Index := Scalar.indexCast v1164
  let c0_513 : Index := 0#32
  ![0, v1304.toNat, 0]
def k0_off14 (d0 : Dev nD) : Fin 3 → Nat :=
  let c0_517 : Index := 0#32
  let c2_i32_378 : BitVec 32 := 2#32
  let c256_i32 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_366 : BitVec 32 := 1#32
  let v1165 : BitVec 1 := Scalar.cmpi .sle v2 c1_i32_366
  let c0_i32_367 : BitVec 32 := 0#32
  let c128_i32_368 : BitVec 32 := 128#32
  let v1166 : BitVec 32 := Scalar.select v1165 c0_i32_367 c128_i32_368
  let v1167 : BitVec 32 := Scalar.addi c256_i32 v1166
  let v1182 : BitVec 32 := Scalar.muli c2_i32_378 v1167
  let c64_i32_379 : BitVec 32 := 64#32
  let v1183 : BitVec 32 := Scalar.addi v1182 c64_i32_379
  let c2_i32_369 : BitVec 32 := 2#32
  let c0_i32_370 : BitVec 32 := 0#32
  let v1169 : BitVec 1 := Scalar.cmpi .eq c2_i32_369 c0_i32_370
  let c1_i32_371 : BitVec 32 := 1#32
  let v1170 : BitVec 32 := Scalar.select v1169 c1_i32_371 c2_i32_369
  let v1171 : BitVec 32 := Scalar.remsi v2 v1170
  let c0_i32_373 : BitVec 32 := 0#32
  let v1173 : BitVec 1 := Scalar.cmpi .slt v1171 c0_i32_373
  let c0_i32_374 : BitVec 32 := 0#32
  let v1174 : BitVec 1 := Scalar.cmpi .slt v1170 c0_i32_374
  let v1175 : BitVec 1 := Scalar.xori v1173 v1174
  let c0_i32_372 : BitVec 32 := 0#32
  let v1172 : BitVec 1 := Scalar.cmpi .ne v1171 c0_i32_372
  let v1176 : BitVec 1 := Scalar.andi v1175 v1172
  let v1177 : BitVec 32 := Scalar.addi v1171 v1170
  let v1178 : BitVec 32 := Scalar.select v1176 v1177 v1171
  let c0_i32_375 : BitVec 32 := 0#32
  let v1179 : BitVec 1 := Scalar.cmpi .eq v1178 c0_i32_375
  let c0_i32_376 : BitVec 32 := 0#32
  let c64_i32_377 : BitVec 32 := 64#32
  let v1180 : BitVec 32 := Scalar.select v1179 c0_i32_376 c64_i32_377
  let v1181 : BitVec 32 := Scalar.addi v1167 v1180
  let v1184 : BitVec 32 := Scalar.subi v1183 v1181
  let v1307 : Index := Scalar.indexCast v1184
  let c0_518 : Index := 0#32
  ![0, v1307.toNat, 0]
def k0_off15 (d0 : Dev nD) : Fin 3 → Nat :=
  let c0_i32_522 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_358 : BitVec 32 := 0#32
  let v1154 : BitVec 1 := Scalar.cmpi .eq v2 c0_i32_358
  let c3_i32_359 : BitVec 32 := 3#32
  let v1155 : BitVec 1 := Scalar.cmpi .eq v2 c3_i32_359
  let v1156 : BitVec 1 := Scalar.ori v1154 v1155
  let c0_i32_360 : BitVec 32 := 0#32
  let c128_i32 : BitVec 32 := 128#32
  let v1157 : BitVec 32 := Scalar.select v1156 c0_i32_360 c128_i32
  let c0_i32_523 : BitVec 32 := 0#32
  ![0, v1157.toNat, 0]
def k0_dev9 (d0 : Dev nD) : Nat :=
  let c0_i32_521 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_520 : BitVec 32 := 1#32
  let v1309 : BitVec 32 := Scalar.muli v3 c1_i32_520
  let v1310 : BitVec 32 := Scalar.addi c0_i32_521 v1309
  v1310.toNat
def k0_off16 (d0 : Dev nD) : Fin 3 → Nat :=
  let c0_i32_527 : BitVec 32 := 0#32
  let c256_i32 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_366 : BitVec 32 := 1#32
  let v1165 : BitVec 1 := Scalar.cmpi .sle v2 c1_i32_366
  let c0_i32_367 : BitVec 32 := 0#32
  let c128_i32_368 : BitVec 32 := 128#32
  let v1166 : BitVec 32 := Scalar.select v1165 c0_i32_367 c128_i32_368
  let v1167 : BitVec 32 := Scalar.addi c256_i32 v1166
  let c0_i32_528 : BitVec 32 := 0#32
  ![0, v1167.toNat, 0]
def k0_dev10 (d0 : Dev nD) : Nat :=
  let c0_i32_526 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_525 : BitVec 32 := 1#32
  let v1316 : BitVec 32 := Scalar.muli v4 c1_i32_525
  let v1317 : BitVec 32 := Scalar.addi c0_i32_526 v1316
  v1317.toNat
def k0_off17 (d0 : Dev nD) : Fin 3 → Nat :=
  let c0_554 : Index := 0#32
  let c128_i32_361 : BitVec 32 := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_358 : BitVec 32 := 0#32
  let v1154 : BitVec 1 := Scalar.cmpi .eq v2 c0_i32_358
  let c3_i32_359 : BitVec 32 := 3#32
  let v1155 : BitVec 1 := Scalar.cmpi .eq v2 c3_i32_359
  let v1156 : BitVec 1 := Scalar.ori v1154 v1155
  let c0_i32_360 : BitVec 32 := 0#32
  let c128_i32 : BitVec 32 := 128#32
  let v1157 : BitVec 32 := Scalar.select v1156 c0_i32_360 c128_i32
  let v1158 : BitVec 32 := Scalar.subi c128_i32_361 v1157
  let v1340 : Index := Scalar.indexCast v1158
  let c0_555 : Index := 0#32
  ![0, v1340.toNat, 0]
def k0_off18 (d0 : Dev nD) : Fin 3 → Nat :=
  let c0_559 : Index := 0#32
  let c640_i32 : BitVec 32 := 640#32
  let c256_i32 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_366 : BitVec 32 := 1#32
  let v1165 : BitVec 1 := Scalar.cmpi .sle v2 c1_i32_366
  let c0_i32_367 : BitVec 32 := 0#32
  let c128_i32_368 : BitVec 32 := 128#32
  let v1166 : BitVec 32 := Scalar.select v1165 c0_i32_367 c128_i32_368
  let v1167 : BitVec 32 := Scalar.addi c256_i32 v1166
  let v1168 : BitVec 32 := Scalar.subi c640_i32 v1167
  let v1343 : Index := Scalar.indexCast v1168
  let c0_560 : Index := 0#32
  ![0, v1343.toNat, 0]
abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x768 : Shape := ⟨3, ![2, 512, 768]⟩
abbrev S768x2048 : Shape := ⟨2, ![768, 2048]⟩
abbrev S2x512x32x64 : Shape := ⟨4, ![2, 512, 32, 64]⟩
abbrev S2048x768 : Shape := ⟨2, ![2048, 768]⟩
abbrev S2x512x2048 : Shape := ⟨3, ![2, 512, 2048]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S2x32x512x512 : Shape := ⟨4, ![2, 32, 512, 512]⟩
abbrev S1x1x512x512 : Shape := ⟨4, ![1, 1, 512, 512]⟩
abbrev S2x32x512 : Shape := ⟨3, ![2, 32, 512]⟩
abbrev S2x32x512x1 : Shape := ⟨4, ![2, 32, 512, 1]⟩
abbrev S1x1x512x1 : Shape := ⟨4, ![1, 1, 512, 1]⟩
abbrev S2x32x64x512 : Shape := ⟨4, ![2, 32, 64, 512]⟩

abbrev nBuf : Space → Nat
  | .hbm => 137
  | .vmem => 0
  | .smem => 0
  | _ => 0

abbrev hbmTy0_0 (i : Nat) : BufTy := match i % 128 with
  | 0 => ⟨S2x512x768, .f32⟩
  | 1 => ⟨S768x2048, .f32⟩
  | 2 => ⟨S2x512x32x64, .f32⟩
  | 3 => ⟨S2x512x32x64, .f32⟩
  | 4 => ⟨S2048x768, .f32⟩
  | 5 => ⟨S2x512x2048, .f32⟩
  | 6 => ⟨S2x512x32x64, .f32⟩
  | 7 => ⟨S512, .i32⟩
  | 8 => ⟨S_, .i32⟩
  | 9 => ⟨S_, .i32⟩
  | 10 => ⟨S512, .i32⟩
  | 11 => ⟨S512, .i32⟩
  | 12 => ⟨S512, .i32⟩
  | 13 => ⟨S_, .i32⟩
  | 14 => ⟨S512, .i32⟩
  | 15 => ⟨S512, .i1⟩
  | 16 => ⟨S512, .i32⟩
  | 17 => ⟨S512, .i32⟩
  | 18 => ⟨S_, .i32⟩
  | 19 => ⟨S512, .i32⟩
  | 20 => ⟨S512, .i1⟩
  | 21 => ⟨S512, .i1⟩
  | 22 => ⟨S_, .i32⟩
  | 23 => ⟨S512, .i32⟩
  | 24 => ⟨S512, .i32⟩
  | 25 => ⟨S512, .i32⟩
  | 26 => ⟨S512x1, .i32⟩
  | 27 => ⟨S512, .i32⟩
  | 28 => ⟨S_, .i32⟩
  | 29 => ⟨S_, .i32⟩
  | 30 => ⟨S512, .i32⟩
  | 31 => ⟨S512, .i32⟩
  | 32 => ⟨S512, .i32⟩
  | 33 => ⟨S_, .i32⟩
  | 34 => ⟨S512, .i32⟩
  | 35 => ⟨S512, .i1⟩
  | 36 => ⟨S512, .i32⟩
  | 37 => ⟨S512, .i32⟩
  | 38 => ⟨S_, .i32⟩
  | 39 => ⟨S512, .i32⟩
  | 40 => ⟨S512, .i1⟩
  | 41 => ⟨S512, .i1⟩
  | 42 => ⟨S_, .i32⟩
  | 43 => ⟨S512, .i32⟩
  | 44 => ⟨S512, .i32⟩
  | 45 => ⟨S512, .i32⟩
  | 46 => ⟨S1x512, .i32⟩
  | 47 => ⟨S512x512, .i32⟩
  | 48 => ⟨S512x512, .i32⟩
  | 49 => ⟨S512x512, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x512, .i32⟩
  | 57 => ⟨S1x512, .i32⟩
  | 58 => ⟨S_, .i32⟩
  | 59 => ⟨S1x512, .i32⟩
  | 60 => ⟨S1x512, .i1⟩
  | 61 => ⟨S_, .i32⟩
  | 62 => ⟨S1x512, .i32⟩
  | 63 => ⟨S1x512, .i1⟩
  | 64 => ⟨S_, .i32⟩
  | 65 => ⟨S_, .i1⟩
  | 66 => ⟨S1x512, .i1⟩
  | 67 => ⟨S1x512, .i1⟩
  | 68 => ⟨S1x512, .i1⟩
  | 69 => ⟨S1x512, .i32⟩
  | 70 => ⟨S1x512, .i32⟩
  | 71 => ⟨S1x512, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S512x1, .i32⟩
  | 79 => ⟨S512x1, .i32⟩
  | 80 => ⟨S_, .i32⟩
  | 81 => ⟨S512x1, .i32⟩
  | 82 => ⟨S512x1, .i1⟩
  | 83 => ⟨S_, .i32⟩
  | 84 => ⟨S512x1, .i32⟩
  | 85 => ⟨S512x1, .i1⟩
  | 86 => ⟨S_, .i32⟩
  | 87 => ⟨S_, .i1⟩
  | 88 => ⟨S512x1, .i1⟩
  | 89 => ⟨S512x1, .i1⟩
  | 90 => ⟨S512x1, .i1⟩
  | 91 => ⟨S512x1, .i32⟩
  | 92 => ⟨S512x1, .i32⟩
  | 93 => ⟨S512x1, .i32⟩
  | 94 => ⟨S512x512, .i32⟩
  | 95 => ⟨S512x512, .i32⟩
  | 96 => ⟨S512x512, .i1⟩
  | 97 => ⟨S512x512, .i1⟩
  | 98 => ⟨S2x32x512x512, .f32⟩
  | 99 => ⟨S_, .f32⟩
  | 100 => ⟨S2x32x512x512, .f32⟩
  | 101 => ⟨S2x32x512x512, .f32⟩
  | 102 => ⟨S1x1x512x512, .i1⟩
  | 103 => ⟨S_, .f32⟩
  | 104 => ⟨S_, .f32⟩
  | 105 => ⟨S2x32x512x512, .i1⟩
  | 106 => ⟨S2x32x512x512, .f32⟩
  | 107 => ⟨S2x32x512x512, .f32⟩
  | 108 => ⟨S_, .f32⟩
  | 109 => ⟨S2x32x512, .f32⟩
  | 110 => ⟨S2x32x512x1, .f32⟩
  | 111 => ⟨S2x32x512x512, .f32⟩
  | 112 => ⟨S2x32x512x512, .f32⟩
  | 113 => ⟨S2x32x512x512, .f32⟩
  | 114 => ⟨S_, .i1⟩
  | 115 => ⟨S512, .i1⟩
  | 116 => ⟨S1x1x512x1, .i1⟩
  | 117 => ⟨S_, .f32⟩
  | 118 => ⟨S2x32x512, .f32⟩
  | 119 => ⟨S2x32x512x1, .f32⟩
  | 120 => ⟨S_, .f32⟩
  | 121 => ⟨S_, .f32⟩
  | 122 => ⟨S2x32x512x1, .i1⟩
  | 123 => ⟨S2x32x512x1, .f32⟩
  | 124 => ⟨S2x32x512x1, .f32⟩
  | 125 => ⟨S2x32x512x512, .f32⟩
  | 126 => ⟨S2x32x512x512, .f32⟩
  | 127 => ⟨S1x1x512x1, .i1⟩
  | _ => ⟨S2x512x768, .f32⟩

abbrev hbmTy0_1 (i : Nat) : BufTy := match i % 128 with
  | 0 => ⟨S_, .f32⟩
  | 1 => ⟨S_, .f32⟩
  | 2 => ⟨S2x32x512x512, .i1⟩
  | 3 => ⟨S2x32x512x512, .f32⟩
  | 4 => ⟨S2x32x512x512, .f32⟩
  | 5 => ⟨S2x32x64x512, .f32⟩
  | 6 => ⟨S2x512x32x64, .f32⟩
  | 7 => ⟨S2x512x2048, .f32⟩
  | 8 => ⟨S2x512x768, .f32⟩
  | _ => ⟨S2x512x768, .f32⟩

abbrev hbmTy (i : Nat) : BufTy := match i / 128 with
  | 0 => hbmTy0_0 i
  | 1 => hbmTy0_1 i
  | _ => ⟨S2x512x768, .f32⟩

abbrev bufTy : (tb : Table) → Fin (tcTables nBuf tb) → BufTy
  | .hbm, ⟨i, _⟩ => hbmTy i
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Stages.lean ====
/-
# The contents of the output window, stage by stage

Every device first fills its output window with its own partial product (`P c` below, any contents at all as far
as this file is concerned).  Then four rounds of pairwise exchanges follow.  In each round a device sends two row
ranges of its window and uses the two row ranges it received: the first two rounds add what arrived to rows of the
window (a reduce-scatter by halving), the last two store what arrived over rows of the window (an all-gather).

The window after round `k` is `stage k c`, each a closed expression in the windows of round `k - 1` of this device
and of the device it exchanges with.  `landed i c` is what arrives at device `c` in exchange `i`.
-/
module

public import proofs.«01_k».proof.Proof.Gen.KernelIdeal
public import proofs.«01_k».proof.Proof.Gen.KernelIdeal.Skeleton

@[expose] public section

noncomputable section

namespace Cert.KernelIdeal.Exchange

open Cert.KernelIdeal Cert.KernelIdeal.Gen
open Idealize.ShloMosaic Idealize.ShloMosaic.TcCoe

variable {F : FTy → Type} [FloatOps F]

/-! ## The two partners of a device -/

/-- The first partner: the device whose number differs in the last bit. -/
def p1 (c : Dev nD) : Dev nD := ![1, 0, 3, 2] c

/-- The second partner: the mirror image `3 - c`. -/
def p2 (c : Dev nD) : Dev nD := ![3, 2, 1, 0] c

theorem p1_p1 (c : Dev nD) : p1 (p1 c) = c := by revert c; decide
theorem p2_p2 (c : Dev nD) : p2 (p2 c) = c := by revert c; decide
theorem p1_ne_p2 (c : Dev nD) : p1 c ≠ p2 c := by revert c; decide

/-- The partner of exchange `i`: the first one for exchanges 0, 3, 5 and 6, the second one for the others. -/
def par (i : Fin 8) (c : Dev nD) : Dev nD :=
  if (![true, false, false, true, false, true, true, false] : Fin 8 → Bool) i then p1 c else p2 c

theorem par_par (i : Fin 8) (c : Dev nD) : par i (par i c) = c := by
  unfold par; split
  · exact p1_p1 c
  · exact p2_p2 c

/-- Exchanging along exchange `i` as a bijection of the devices. -/
def swap (i : Fin 8) : Dev nD ≃ Dev nD := ⟨par i, par i, par_par i, par_par i⟩

/-! ## Buffers -/

/-- Contents of the output window. -/
abbrev Win (F : FTy → Type) : Type := (cc0_stg5_0 : Ref sig .tc).ty.Contents (Elt F)

/-- The output window. -/
abbrev oM : Memref sig .tc .vmem S2x512x768 .f32 := Memref.whole cc0_stg5_0

/-- The buffer that exchange `i` lands in. -/
abbrev lnd (i : Fin 8) : Ref sig .tc :=
  (![cc0_scratch0, cc0_scratch1, cc0_scratch2, cc0_scratch3, cc0_scratch4, cc0_scratch5, cc0_scratch6,
    cc0_scratch7] : Fin 8 → Ref sig .tc) i

/-- 128 rows of both batches. -/
abbrev wide (off : Fin 3 → ℕ) (inb : ∀ a, off a + S2x128x768.size a ≤ S2x512x768.size a) : Rect S2x512x768 :=
  Rect.unit (s := S2x512x768) off S2x128x768.size inb

/-- 64 rows of both batches. -/
abbrev slim (off : Fin 3 → ℕ) (inb : ∀ a, off a + S2x64x768.size a ≤ S2x512x768.size a) : Rect S2x512x768 :=
  Rect.unit (s := S2x512x768) off S2x64x768.size inb

/-- What a rectangle of the window holds. -/
abbrev get (f : Win F) (r : Rect S2x512x768) : r.shape.Idx → Elt F .f32 := oM.view.readAt (Elt F) r.toLoadRect f

/-- The window with a rectangle of it replaced. -/
abbrev put (f : Win F) (r : Rect S2x512x768) (w : r.shape.Idx → Elt F .f32) : Win F :=
  (oM.access r : View sig .tc _ _ _).write (Elt F) f w Finset.univ

/-! ## Stages -/

variable (P : Dev nD → Win F)

/-- What arrives in exchanges 0 and 1: half of the first and half of the last 256 rows. -/
def land0 (c : Dev nD) := get (P (p1 c)) (wide (k0_off3 (p1 c)) (k0_off3_inb _))
def land1 (c : Dev nD) := get (P (p2 c)) (wide (k0_off4 (p2 c)) (k0_off4_inb _))

/-- The window after the first round, its first store only. -/
def stage1a (c : Dev nD) : Win F :=
  put (P c) (wide (k0_off5 c) (k0_off5_inb c)) (k0_pay117 (get (P c) (wide (k0_off5 c) (k0_off5_inb c))) (land0 P c))

/-- The window after the first round. -/
def stage1 (c : Dev nD) : Win F :=
  put (stage1a P c) (wide (k0_off6 c) (k0_off6_inb c))
    (k0_pay118 (get (stage1a P c) (wide (k0_off6 c) (k0_off6_inb c))) (land1 P c))

/-- What arrives in exchanges 2 and 3: a quarter of each half, summed over two devices. -/
def land2 (c : Dev nD) := get (stage1 P (p2 c)) (slim (k0_off7 (p2 c)) (k0_off7_inb _))
def land3 (c : Dev nD) := get (stage1 P (p1 c)) (slim (k0_off8 (p1 c)) (k0_off8_inb _))

/-- The window after the second round, its first store only. -/
def stage2a (c : Dev nD) : Win F :=
  put (stage1 P c) (slim (k0_off9 c) (k0_off9_inb c))
    (k0_pay119 (get (stage1 P c) (slim (k0_off9 c) (k0_off9_inb c))) (land2 P c))

/-- The window after the second round. -/
def stage2 (c : Dev nD) : Win F :=
  put (stage2a P c) (slim (k0_off10 c) (k0_off10_inb c))
    (k0_pay120 (get (stage2a P c) (slim (k0_off10 c) (k0_off10_inb c))) (land3 P c))

/-- What arrives in exchanges 4 and 5: the finished quarters. -/
def land4 (c : Dev nD) := get (stage2 P (p2 c)) (slim (k0_off11 (p2 c)) (k0_off11_inb _))
def land5 (c : Dev nD) := get (stage2 P (p1 c)) (slim (k0_off12 (p1 c)) (k0_off12_inb _))

/-- The window after the third round. -/
def stage3 (c : Dev nD) : Win F :=
  put (put (stage2 P c) (slim (k0_off13 c) (k0_off13_inb c)) (land4 P c)) (slim (k0_off14 c) (k0_off14_inb c)) (land5 P c)

/-- What arrives in exchanges 6 and 7: the finished halves. -/
def land6 (c : Dev nD) := get (stage3 P (p1 c)) (wide (k0_off15 (p1 c)) (k0_off15_inb _))
def land7 (c : Dev nD) := get (stage3 P (p2 c)) (wide (k0_off16 (p2 c)) (k0_off16_inb _))

/-- The window after the last round: the result. -/
def stage4 (c : Dev nD) : Win F :=
  put (put (stage3 P c) (wide (k0_off17 c) (k0_off17_inb c)) (land6 P c)) (wide (k0_off18 c) (k0_off18_inb c)) (land7 P c)

/-- What exchange `i` leaves in the landing buffer of device `c`. -/
def landed (i : Fin 8) (c : Dev nD) : (lnd i).ty.Contents (Elt F) :=
  match i with
  | 0 => land0 P c
  | 1 => land1 P c
  | 2 => land2 P c
  | 3 => land3 P c
  | 4 => land4 P c
  | 5 => land5 P c
  | 6 => land6 P c
  | 7 => land7 P c

/-- The window a device sends from in exchange `i`. -/
def source (i : Fin 8) (c : Dev nD) : Win F :=
  match i with
  | 0 => P c
  | 1 => P c
  | 2 => stage1 P c
  | 3 => stage1 P c
  | 4 => stage2 P c
  | 5 => stage2 P c
  | 6 => stage3 P c
  | 7 => stage3 P c

/-- The positions of the window a device sends in exchange `i`. -/
def sent (i : Fin 8) (c : Dev nD) : Finset S2x512x768.Idx :=
  (![(oM.slice (wide (k0_off3 c) (k0_off3_inb c)) fun _ => rfl).view.set,
    (oM.slice (wide (k0_off4 c) (k0_off4_inb c)) fun _ => rfl).view.set,
    (oM.slice (slim (k0_off7 c) (k0_off7_inb c)) fun _ => rfl).view.set,
    (oM.slice (slim (k0_off8 c) (k0_off8_inb c)) fun _ => rfl).view.set,
    (oM.slice (slim (k0_off11 c) (k0_off11_inb c)) fun _ => rfl).view.set,
    (oM.slice (slim (k0_off12 c) (k0_off12_inb c)) fun _ => rfl).view.set,
    (oM.slice (wide (k0_off15 c) (k0_off15_inb c)) fun _ => rfl).view.set,
    (oM.slice (wide (k0_off16 c) (k0_off16_inb c)) fun _ => rfl).view.set] : Fin 8 → Finset S2x512x768.Idx) i

/-! ## The equations

The stages are used by these equations only from here on. -/

/-- A rectangle of the window that depends on the device, read at the partner's partner: the device's own. -/
theorem get_back {s : Shape} (f : Dev nD → Win F) (r : Dev nD → Rect S2x512x768) (hs : ∀ c, (r c).shape = s) (c d : Dev nD) (h : d = c) :
    HEq (get (f d) (r d)) (get (f c) (r c)) := by subst h; rfl

/-! What a device sends in exchange `i` is what its partner finds in the landing buffer. -/

theorem arrives0 (c : Dev nD) :
    (oM.slice (wide (k0_off3 c) (k0_off3_inb c)) fun _ => rfl).view.read (Elt F) ((P) c) = landed P 0 (par 0 c) :=
  eq_of_heq (get_back (s := S2x128x768) (P) (fun d => wide (k0_off3 d) (k0_off3_inb d)) (fun _ => rfl) _ _ (p1_p1 c)).symm

theorem arrives1 (c : Dev nD) :
    (oM.slice (wide (k0_off4 c) (k0_off4_inb c)) fun _ => rfl).view.read (Elt F) ((P) c) = landed P 1 (par 1 c) :=
  eq_of_heq (get_back (s := S2x128x768) (P) (fun d => wide (k0_off4 d) (k0_off4_inb d)) (fun _ => rfl) _ _ (p2_p2 c)).symm

theorem arrives2 (c : Dev nD) :
    (oM.slice (slim (k0_off7 c) (k0_off7_inb c)) fun _ => rfl).view.read (Elt F) ((stage1 P) c) = landed P 2 (par 2 c) :=
  eq_of_heq (get_back (s := S2x64x768) (stage1 P) (fun d => slim (k0_off7 d) (k0_off7_inb d)) (fun _ => rfl) _ _ (p2_p2 c)).symm

theorem arrives3 (c : Dev nD) :
    (oM.slice (slim (k0_off8 c) (k0_off8_inb c)) fun _ => rfl).view.read (Elt F) ((stage1 P) c) = landed P 3 (par 3 c) :=
  eq_of_heq (get_back (s := S2x64x768) (stage1 P) (fun d => slim (k0_off8 d) (k0_off8_inb d)) (fun _ => rfl) _ _ (p1_p1 c)).symm

theorem arrives4 (c : Dev nD) :
    (oM.slice (slim (k0_off11 c) (k0_off11_inb c)) fun _ => rfl).view.read (Elt F) ((stage2 P) c) = landed P 4 (par 4 c) :=
  eq_of_heq (get_back (s := S2x64x768) (stage2 P) (fun d => slim (k0_off11 d) (k0_off11_inb d)) (fun _ => rfl) _ _ (p2_p2 c)).symm

theorem arrives5 (c : Dev nD) :
    (oM.slice (slim (k0_off12 c) (k0_off12_inb c)) fun _ => rfl).view.read (Elt F) ((stage2 P) c) = landed P 5 (par 5 c) :=
  eq_of_heq (get_back (s := S2x64x768) (stage2 P) (fun d => slim (k0_off12 d) (k0_off12_inb d)) (fun _ => rfl) _ _ (p1_p1 c)).symm

theorem arrives6 (c : Dev nD) :
    (oM.slice (wide (k0_off15 c) (k0_off15_inb c)) fun _ => rfl).view.read (Elt F) ((stage3 P) c) = landed P 6 (par 6 c) :=
  eq_of_heq (get_back (s := S2x128x768) (stage3 P) (fun d => wide (k0_off15 d) (k0_off15_inb d)) (fun _ => rfl) _ _ (p1_p1 c)).symm

theorem arrives7 (c : Dev nD) :
    (oM.slice (wide (k0_off16 c) (k0_off16_inb c)) fun _ => rfl).view.read (Elt F) ((stage3 P) c) = landed P 7 (par 7 c) :=
  eq_of_heq (get_back (s := S2x128x768) (stage3 P) (fun d => wide (k0_off16 d) (k0_off16_inb d)) (fun _ => rfl) _ _ (p2_p2 c)).symm

theorem stage1a_eq (c : Dev nD) : stage1a P c =
  put (P c) (wide (k0_off5 c) (k0_off5_inb c)) (k0_pay117 (get (P c) (wide (k0_off5 c) (k0_off5_inb c))) (land0 P c)) := rfl

theorem stage1_eq (c : Dev nD) : stage1 P c =
  put (stage1a P c) (wide (k0_off6 c) (k0_off6_inb c))
    (k0_pay118 (get (stage1a P c) (wide (k0_off6 c) (k0_off6_inb c))) (land1 P c)) := rfl

theorem stage2a_eq (c : Dev nD) : stage2a P c =
  put (stage1 P c) (slim (k0_off9 c) (k0_off9_inb c))
    (k0_pay119 (get (stage1 P c) (slim (k0_off9 c) (k0_off9_inb c))) (land2 P c)) := rfl

theorem stage2_eq (c : Dev nD) : stage2 P c =
  put (stage2a P c) (slim (k0_off10 c) (k0_off10_inb c))
    (k0_pay120 (get (stage2a P c) (slim (k0_off10 c) (k0_off10_inb c))) (land3 P c)) := rfl

theorem stage3_eq (c : Dev nD) : stage3 P c =
  put (put (stage2 P c) (slim (k0_off13 c) (k0_off13_inb c)) (land4 P c)) (slim (k0_off14 c) (k0_off14_inb c)) (land5 P c) := rfl

theorem stage4_eq (c : Dev nD) : stage4 P c =
  put (put (stage3 P c) (wide (k0_off17 c) (k0_off17_inb c)) (land6 P c)) (wide (k0_off18 c) (k0_off18_inb c)) (land7 P c) := rfl

theorem land0_eq (c : Dev nD) : land0 P c = get ((P) (p1 c)) (wide (k0_off3 (p1 c)) (k0_off3_inb _)) := rfl
theorem land1_eq (c : Dev nD) : land1 P c = get ((P) (p2 c)) (wide (k0_off4 (p2 c)) (k0_off4_inb _)) := rfl
theorem land2_eq (c : Dev nD) : land2 P c = get ((stage1 P) (p2 c)) (slim (k0_off7 (p2 c)) (k0_off7_inb _)) := rfl
theorem land3_eq (c : Dev nD) : land3 P c = get ((stage1 P) (p1 c)) (slim (k0_off8 (p1 c)) (k0_off8_inb _)) := rfl
theorem land4_eq (c : Dev nD) : land4 P c = get ((stage2 P) (p2 c)) (slim (k0_off11 (p2 c)) (k0_off11_inb _)) := rfl
theorem land5_eq (c : Dev nD) : land5 P c = get ((stage2 P) (p1 c)) (slim (k0_off12 (p1 c)) (k0_off12_inb _)) := rfl
theorem land6_eq (c : Dev nD) : land6 P c = get ((stage3 P) (p1 c)) (wide (k0_off15 (p1 c)) (k0_off15_inb _)) := rfl
theorem land7_eq (c : Dev nD) : land7 P c = get ((stage3 P) (p2 c)) (wide (k0_off16 (p2 c)) (k0_off16_inb _)) := rfl

attribute [irreducible] stage1a stage1 stage2a stage2 stage3 stage4 land0 land1 land2 land3 land4 land5 land6 land7

theorem landed_0 (c : Dev nD) : landed P 0 c = land0 P c := rfl
theorem landed_1 (c : Dev nD) : landed P 1 c = land1 P c := rfl
theorem landed_2 (c : Dev nD) : landed P 2 c = land2 P c := rfl
theorem landed_3 (c : Dev nD) : landed P 3 c = land3 P c := rfl
theorem landed_4 (c : Dev nD) : landed P 4 c = land4 P c := rfl
theorem landed_5 (c : Dev nD) : landed P 5 c = land5 P c := rfl
theorem landed_6 (c : Dev nD) : landed P 6 c = land6 P c := rfl
theorem landed_7 (c : Dev nD) : landed P 7 c = land7 P c := rfl
theorem source_0 (c : Dev nD) : source P 0 c = (P) c := rfl
theorem source_1 (c : Dev nD) : source P 1 c = (P) c := rfl
theorem source_2 (c : Dev nD) : source P 2 c = (stage1 P) c := rfl
theorem source_3 (c : Dev nD) : source P 3 c = (stage1 P) c := rfl
theorem source_4 (c : Dev nD) : source P 4 c = (stage2 P) c := rfl
theorem source_5 (c : Dev nD) : source P 5 c = (stage2 P) c := rfl
theorem source_6 (c : Dev nD) : source P 6 c = (stage3 P) c := rfl
theorem source_7 (c : Dev nD) : source P 7 c = (stage3 P) c := rfl

end Cert.KernelIdeal.Exchange

end
-- ==== Proof.Protocol.lean ====
/-
# The protocol of the exchanges

Every semaphore is used for one round.

* The barrier of device `c` is raised once by each of its two partners and waited on once, for 2, before the first
  transfer.  A partner's unit carries that partner's landing buffers of the four exchanges it shares with `c`: the
  buffers `c` is about to write.
* In exchange `i` device `c` copies a row range of its window into the landing buffer of `par i c`.  The copy raises
  the send semaphore `i` of `c`, giving `c` back the share of the rows it lent, and the receive semaphore `i` of
  `par i c`, giving that device its landing buffer at `landed i`.

A device owes, from the start, one unit to each partner's barrier and one transfer to each `par i c`.  A barrier has
level 1 and receive semaphore `i` level `2 + i`; a device only ever waits below the levels it still owes.
-/
module

public import proofs.«01_k».proof.Proof.Stages
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Ghost state -/

/-- The ghost state: one copy of the rounds for the staging pipeline, one for the exchanges. -/
abbrev UX : Type := URounds (GSem nD τ sig) Bool
abbrev UA : Type := UR sig nD τ × UX

local notation "𝕄" => MT nD τ sig Unit (Elt F) ℕ UA ℕ

abbrev EP : Emb (UR sig nD τ) (MT nD τ sig Unit (Elt F) ℕ UA ℕ) := embL
abbrev EX : Emb UX (MT nD τ sig Unit (Elt F) ℕ UA ℕ) := embR

/-! ## Semaphores and cells -/

/-- The barrier semaphore. -/
abbrev barS : Sem sig := (SemArray.scalar (sig.barrier 0 rfl) : Sems sig S_).sem

/-- The send and receive semaphores of exchange `i`. -/
def sndS (i : Fin 8) : DmaSem sig := ⟨6 + i.val, by have := i.isLt; show 6 + i.val < 22; omega⟩
def rcvS (i : Fin 8) : DmaSem sig := ⟨14 + i.val, by have := i.isLt; show 14 + i.val < 22; omega⟩

abbrev barC (c : Dev nD) : GSem nD τ sig := ((c : Thread nD τ), .reg barS)
abbrev sndC (i : Fin 8) (c : Dev nD) : GSem nD τ sig := ((c : Thread nD τ), .dma (sndS i))
abbrev rcvC (i : Fin 8) (c : Dev nD) : GSem nD τ sig := ((c : Thread nD τ), .dma (rcvS i))

/-- Which exchange a semaphore belongs to: `(false, i)` for a send semaphore, `(true, i)` for a receive semaphore. -/
def xfer (s : SemLoc sig) : Option (Bool × Fin 8) :=
  match s with
  | .reg _ => none
  | .dma q =>
    if h : 6 ≤ q.val ∧ q.val < 14 then some (false, ⟨q.val - 6, by omega⟩)
    else if h : 14 ≤ q.val ∧ q.val < 22 then some (true, ⟨q.val - 14, by omega⟩) else none

theorem xfer_snd (i : Fin 8) : xfer (.dma (sndS i)) = some (false, i) := by revert i; decide
theorem xfer_rcv (i : Fin 8) : xfer (.dma (rcvS i)) = some (true, i) := by revert i; decide
theorem xfer_bar : xfer (.reg barS) = none := rfl
theorem dma_ne_bar (q : DmaSem sig) : (SemLoc.dma q : SemLoc sig) ≠ .reg barS := fun h => by cases h

/-- The units one transfer of exchange `i` raises a semaphore by. -/
def units (i : Fin 8) : ℕ :=
  (![(Memref.whole cc0_scratch0).view.dmaCredit, (Memref.whole cc0_scratch1).view.dmaCredit,
    (Memref.whole cc0_scratch2).view.dmaCredit, (Memref.whole cc0_scratch3).view.dmaCredit,
    (Memref.whole cc0_scratch4).view.dmaCredit, (Memref.whole cc0_scratch5).view.dmaCredit,
    (Memref.whole cc0_scratch6).view.dmaCredit, (Memref.whole cc0_scratch7).view.dmaCredit] : Fin 8 → ℕ) i

theorem units_pos (i : Fin 8) : 0 < units i := by
  fin_cases i <;> exact View.dmaCredit_pos _ (by decide)

/-! ## What the semaphores carry -/

variable (P : Dev nD → Win F)

/-- The share of the window lent in exchange `i`: the two transfers of a round lend different halves. -/
def lent (i : Fin 8) : PosShare TreeShare :=
  if (![true, false, true, false, true, false, true, false] : Fin 8 → Bool) i then fullShare.left else fullShare.right

/-- The landing buffer of exchange `i` on device `c`, holding `f`. -/
def buf (i : Fin 8) (c : Dev nD) (f : (lnd i).ty.Contents (Elt F)) : sProp 𝕄 :=
  ((c : Thread nD τ).loc (lnd i)) ↦{fullShare} f

/-- The landing buffer of exchange `i` on device `c`, holding anything. -/
def anyBuf (i : Fin 8) (c : Dev nD) : sProp 𝕄 := iprop(∃ f, buf i c f)

/-- A receive semaphore carries the landing buffer at what arrived. -/
def rcvPay (i : Fin 8) (c : Dev nD) : sProp 𝕄 := buf i c (landed P i c)

/-- A send semaphore carries the lent share of the rows sent. -/
def sndPay (i : Fin 8) (c : Dev nD) : sProp 𝕄 :=
  ((c : Thread nD τ).loc cc0_stg5_0) ↦[sent i c]{lent i} source P i c

/-- A barrier unit of partner one carries its buffers of exchanges 0, 3, 5 and 6, -/
def hands1 (d : Dev nD) : sProp 𝕄 := iprop(anyBuf 0 d ∗ anyBuf 3 d ∗ anyBuf 5 d ∗ anyBuf 6 d)
/-- a unit of partner two those of exchanges 1, 2, 4 and 7. -/
def hands2 (d : Dev nD) : sProp 𝕄 := iprop(anyBuf 1 d ∗ anyBuf 2 d ∗ anyBuf 4 d ∗ anyBuf 7 d)

omit [FloatOps F] in
instance buf_storable (i : Fin 8) (c : Dev nD) (f) : BI.Storable (upEmb : UEmb _ 𝕄) (buf (F := F) i c f) := by
  unfold buf; infer_instance
omit [FloatOps F] in
instance anyBuf_storable (i : Fin 8) (c : Dev nD) : BI.Storable (upEmb : UEmb _ 𝕄) (anyBuf (F := F) i c) := by
  unfold anyBuf; infer_instance
instance rcvPay_storable (i : Fin 8) (c : Dev nD) : BI.Storable (upEmb : UEmb _ 𝕄) (rcvPay P i c) := by
  unfold rcvPay; infer_instance
instance sndPay_storable (i : Fin 8) (c : Dev nD) : BI.Storable (upEmb : UEmb _ 𝕄) (sndPay P i c) := by
  unfold sndPay; infer_instance
omit [FloatOps F] in
instance hands1_storable (d : Dev nD) : BI.Storable (upEmb : UEmb _ 𝕄) (hands1 (F := F) d) := by
  unfold hands1; infer_instance
omit [FloatOps F] in
instance hands2_storable (d : Dev nD) : BI.Storable (upEmb : UEmb _ 𝕄) (hands2 (F := F) d) := by
  unfold hands2; infer_instance

/-- The payload of a semaphore that is not the barrier. -/
def xferPay (o : Option (Bool × Fin 8)) (c : Dev nD) : sProp 𝕄 :=
  match o with
  | some (false, i) => sndPay P i c
  | some (true, i) => rcvPay P i c
  | none => iprop(emp)

instance xferPay_storable (o : Option (Bool × Fin 8)) (c : Dev nD) :
    BI.Storable (upEmb : UEmb _ 𝕄) (xferPay P o c) := by
  rcases o with _ | ⟨_ | _, i⟩ <;> unfold xferPay <;> infer_instance

/-- The units per duty. -/
def xferUnits (o : Option (Bool × Fin 8)) : ℕ := match o with | some (_, i) => units i | none => 1

theorem xferUnits_pos (o : Option (Bool × Fin 8)) : 0 < xferUnits o := by
  rcases o with _ | ⟨_, i⟩
  · exact Nat.one_pos
  · exact units_pos i

/-- The schedule: one round; a barrier has the duties `false` (partner one's) and `true` (partner two's), a send or
receive semaphore the duty `false`. -/
def Rd : Rounds.Schedule (GSem nD τ sig) Bool 𝕄 where
  duties g r :=
    if r = 0 ∧ g.1.2 = .tc then (if g.2 = .reg barS then Finset.univ else if (xfer g.2).isSome then {false} else ∅) else ∅
  unitless _ := False
  amount g _ _ := xferUnits (xfer g.2)
  payload g _ d := if g.2 = .reg barS then (if d then hands2 (p2 g.1.1) else hands1 (p1 g.1.1)) else xferPay P (xfer g.2) g.1.1
  amount_pos g _ _ _ := xferUnits_pos _

instance Rd_storable (g : GSem nD τ sig) (r : ℕ) (d : Bool) :
    BI.Storable (upEmb : UEmb _ 𝕄) ((Rd P).payload g r d) := by
  show BI.Storable upEmb (if g.2 = .reg barS then (if d then hands2 (p2 g.1.1) else hands1 (p1 g.1.1)) else xferPay P (xfer g.2) g.1.1)
  (repeat' split) <;> infer_instance

section Sched
variable (c : Dev nD) (i : Fin 8)

theorem duties_bar : (Rd P).duties (barC c) 0 = Finset.univ := by
  dsimp only [Rd]; rw [if_pos ⟨rfl, rfl⟩, if_pos rfl]
theorem duties_snd : (Rd P).duties (sndC i c) 0 = {false} := by
  dsimp only [Rd]; rw [if_pos ⟨rfl, rfl⟩, if_neg (dma_ne_bar _), if_pos (by rw [xfer_snd]; rfl)]
theorem duties_rcv : (Rd P).duties (rcvC i c) 0 = {false} := by
  dsimp only [Rd]; rw [if_pos ⟨rfl, rfl⟩, if_neg (dma_ne_bar _), if_pos (by rw [xfer_rcv]; rfl)]
theorem duties_later (g : GSem nD τ sig) : ∀ r, 1 ≤ r → (Rd P).duties g r = ∅ :=
  fun r hr => by dsimp only [Rd]; rw [if_neg fun h => by omega]

theorem amount_bar (d : Bool) : (Rd P).amount (barC c) 0 d = 1 := by dsimp only [Rd]; rw [xfer_bar]; rfl
theorem amount_snd (d : Bool) : (Rd P).amount (sndC i c) 0 d = units i := by dsimp only [Rd]; rw [xfer_snd]; rfl
theorem amount_rcv (d : Bool) : (Rd P).amount (rcvC i c) 0 d = units i := by dsimp only [Rd]; rw [xfer_rcv]; rfl

theorem expect_bar : (Rd P).expect (barC c) 0 = 2 := by
  unfold Schedule.expect Schedule.amountOf
  rw [duties_bar, Finset.sum_congr rfl fun d _ => amount_bar P c d, Finset.sum_const, Finset.card_univ,
    Fintype.card_bool, smul_eq_mul]
theorem expect_snd : (Rd P).expect (sndC i c) 0 = units i := by
  unfold Schedule.expect Schedule.amountOf; rw [duties_snd, Finset.sum_singleton, amount_snd]
theorem expect_rcv : (Rd P).expect (rcvC i c) 0 = units i := by
  unfold Schedule.expect Schedule.amountOf; rw [duties_rcv, Finset.sum_singleton, amount_rcv]

theorem payload_bar_false : (Rd P).payload (barC c) 0 false = hands1 (p1 c) := by
  dsimp only [Rd]; rw [if_pos rfl]; exact if_neg Bool.false_ne_true
theorem payload_bar_true : (Rd P).payload (barC c) 0 true = hands2 (p2 c) := by
  dsimp only [Rd]; rw [if_pos rfl]; exact if_pos rfl
theorem payload_snd (d : Bool) : (Rd P).payload (sndC i c) 0 d = sndPay P i c := by
  dsimp only [Rd]; rw [if_neg (dma_ne_bar _), xfer_snd]; rfl
theorem payload_rcv (d : Bool) : (Rd P).payload (rcvC i c) 0 d = rcvPay P i c := by
  dsimp only [Rd]; rw [if_neg (dma_ne_bar _), xfer_rcv]; rfl

/-- What a wait for the whole round of a barrier returns: both partners' landing buffers. -/
theorem rest_bar : bigSep ((Rd P).duties (barC c) 0 \ ∅) (fun d => (Rd P).payload (barC c) 0 d)
    = iprop(hands1 (p1 c) ∗ hands2 (p2 c)) := by
  rw [Finset.sdiff_empty, duties_bar, bigSep_univ_eq_bigSepL [false, true] (by decide) (by decide),
    bigSepL_cons_cons, bigSepL_singleton, payload_bar_false, payload_bar_true]
  rfl
theorem rest_snd : bigSep ((Rd P).duties (sndC i c) 0 \ ∅) (fun d => (Rd P).payload (sndC i c) 0 d) = sndPay P i c := by
  rw [Finset.sdiff_empty, duties_snd, bigSep_singleton, payload_snd]
theorem rest_rcv : bigSep ((Rd P).duties (rcvC i c) 0 \ ∅) (fun d => (Rd P).payload (rcvC i c) 0 d) = rcvPay P i c := by
  rw [Finset.sdiff_empty, duties_rcv, bigSep_singleton, payload_rcv]

end Sched

/-! ## What a device owes, and the levels -/

/-- The transfers a device still owes once the first `k` exchanges are under way. -/
def oweFrom (k : ℕ) (c : Dev nD) : CellTallies nD τ sig Unit :=
  ∑ i ∈ Finset.univ.filter (fun i : Fin 8 => k ≤ i.val), tallyAt (rcvC i (par i c)) () (units i)

theorem oweFrom_succ (i : Fin 8) (c : Dev nD) :
    oweFrom i.val c = oweFrom (i.val + 1) c + tallyAt (rcvC i (par i c)) () (units i) := by
  unfold oweFrom
  rw [show Finset.univ.filter (fun j : Fin 8 => i.val ≤ j.val)
      = insert i (Finset.univ.filter (fun j : Fin 8 => i.val + 1 ≤ j.val)) from by
    ext j
    simp only [Finset.mem_filter, Finset.mem_univ, true_and, Finset.mem_insert, Fin.ext_iff]
    omega, Finset.sum_insert (by simp), add_comm]

theorem oweFrom_eight (c : Dev nD) : oweFrom 8 c = 0 := by
  unfold oweFrom
  rw [Finset.filter_false_of_mem fun i _ => by have := i.isLt; omega, Finset.sum_empty]

/-- All a device owes at launch: a unit to each partner's barrier and the eight transfers. -/
def owe₀ (c : Dev nD) : CellTallies nD τ sig Unit :=
  oweFrom 0 c + tallyAt (barC (p2 c)) () 1 + tallyAt (barC (p1 c)) () 1

def L (g : GSem nD τ sig) : Finset Unit := if g.1.2 = .tc then {()} else ∅

/-- The level of a semaphore that is not the barrier. -/
def xferLevel (o : Option (Bool × Fin 8)) : ℕ := match o with | some (true, i) => 2 + i.val | _ => 0

/-- Barriers at level 1, receive semaphore `i` at level `2 + i`, the rest at level 0. -/
def lv (g : GSem nD τ sig) (_ : Unit) : ℕ := if g.2 = .reg barS then 1 else xferLevel (xfer g.2)

theorem L_of_ne (g : GSem nD τ sig) (h : g.1.2 ≠ .tc) : L g = ∅ := if_neg h
theorem mem_L (g : GSem nD τ sig) (h : g.1.2 = .tc) : () ∈ L g := by
  unfold L; rw [if_pos h]; exact Finset.mem_singleton_self _
theorem lv_bar (c : Dev nD) (u : Unit) : lv (barC c) u = 1 := if_pos rfl
theorem lv_rcv (i : Fin 8) (c : Dev nD) (u : Unit) : lv (rcvC i c) u = 2 + i.val := by
  unfold lv; rw [if_neg (dma_ne_bar _), xfer_rcv]; rfl
theorem lv_snd (i : Fin 8) (c : Dev nD) (u : Unit) : lv (sndC i c) u = 0 := by
  unfold lv; rw [if_neg (dma_ne_bar _), xfer_snd]; rfl

theorem oweFrom_pos {k : ℕ} {c : Dev nD} {g : GSem nD τ sig} {u : Unit} (h : 0 < oweFrom k c g u) :
    ∃ i : Fin 8, k ≤ i.val ∧ g = rcvC i (par i c) := by
  unfold oweFrom at h
  rw [Finset.sum_apply, Finsupp.finset_sum_apply] at h
  obtain ⟨i, hi, hp⟩ := Finset.exists_ne_zero_of_sum_ne_zero (Nat.pos_iff_ne_zero.mp h)
  rw [tallyAt_apply] at hp
  refine ⟨i, (Finset.mem_filter.mp hi).2, ?_⟩
  by_contra hn
  exact hp (if_neg fun h' => hn h'.1)

theorem owe₀_pos {c : Dev nD} {g : GSem nD τ sig} {u : Unit} (h : 0 < owe₀ c g u) :
    (∃ d, g = barC d) ∨ ∃ (i : Fin 8) (d : Dev nD), g = rcvC i d := by
  unfold owe₀ at h
  rw [Pi.add_apply, Finsupp.add_apply, Pi.add_apply, Finsupp.add_apply, tallyAt_apply, tallyAt_apply] at h
  by_cases h2 : g = barC (p2 c)
  · exact Or.inl ⟨_, h2⟩
  by_cases h1 : g = barC (p1 c)
  · exact Or.inl ⟨_, h1⟩
  rw [if_neg (fun h' => h2 h'.1), if_neg (fun h' => h1 h'.1)] at h
  obtain ⟨i, _, hi⟩ := oweFrom_pos (k := 0) (c := c) (g := g) (u := u) (by omega)
  exact Or.inr ⟨i, _, hi⟩

omit [FloatOps F] in
/-- A device may wait on a semaphore whose level is at most `n` while all it owes lies above `n`. -/
theorem mayWait (c : Dev nD) (s : SemLoc sig) (n : ℕ) (O : CellTallies nD τ sig Unit)
    (hs : lv ((c : Thread nD τ), s) () ≤ n) (hO : ∀ g u, 0 < O g u → g.1.2 = .tc ∧ n < lv g u) :
    (levAts L lv : sProp 𝕄) ⊢ MayWait (c : Thread nD τ) s () O :=
  MayOwe.of_cut (L := L) (lev := lv) n
    (fun p hp => by rw [Finset.mem_singleton.mp hp]; exact mem_L _ rfl)
    (fun g u hg => mem_L g (hO g u hg).1)
    (fun p hp => by rw [Finset.mem_singleton.mp hp]; exact hs)
    (fun g u hg => (hO g u hg).2)

omit [FloatOps F] in
theorem mayWait_from (c : Dev nD) (s : SemLoc sig) (k : ℕ) (hs : lv ((c : Thread nD τ), s) () ≤ 1 + k) :
    (levAts L lv : sProp 𝕄) ⊢ MayWait (c : Thread nD τ) s () (oweFrom k c) :=
  mayWait c s (1 + k) _ hs fun g u hg => by
    obtain ⟨i, hi, rfl⟩ := oweFrom_pos hg
    exact ⟨rfl, by rw [lv_rcv]; omega⟩

end Cert.KernelIdeal.Exchange

end
-- ==== Proof.Steps.lean ====
/-
# The steps of the exchanges

One rule per kind of step a device takes: start a transfer, wait for its own transfer to be read out, wait for a
transfer to arrive.  Each is stated for exchange `i` at once.
-/
module

public import proofs.«01_k».proof.Proof.Protocol

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (P : Dev nD → Win F)

/-- Names for the cells of a device: the barrier, or a send or receive semaphore. -/
abbrev Cell : Type := Option (Bool × Fin 8)

/-- The semaphore of a named cell. -/
def cellSem (k : Cell) : SemLoc sig :=
  match k with
  | none => .reg barS
  | some (false, i) => .dma (sndS i)
  | some (true, i) => .dma (rcvS i)

/-- A named cell of a device. -/
abbrev cell (ck : Dev nD × Cell) : GSem nD τ sig := ((ck.1 : Thread nD τ), cellSem ck.2)

/-- Every cell follows the schedule, and every cell has begun its round. -/
def records (K : Dev nD × Cell → ℕ) : sProp 𝕄 :=
  iprop((bigSep Finset.univ fun ck : Dev nD × Cell => cellInv EX (Rd P) (K ck) (cell ck))
    ∗ bigSep Finset.univ fun ck : Dev nD × Cell => reached EX (cell ck) 0)

instance records_persistent (K : Dev nD × Cell → ℕ) : BI.Persistent (records P K) := by unfold records; infer_instance

theorem inv_at (K : Dev nD × Cell → ℕ) (ck : Dev nD × Cell) : records P K ⊢ cellInv EX (Rd P) (K ck) (cell ck) := by
  unfold records
  exact sep_elim_left.trans <| bigSep_elim (Φ := fun ck : Dev nD × Cell => (cellInv EX (Rd P) (K ck) (cell ck) : sProp 𝕄)) (Finset.mem_univ ck)

theorem reached_at (K : Dev nD × Cell → ℕ) (ck : Dev nD × Cell) : records P K ⊢ reached EX (cell ck) 0 := by
  unfold records
  exact sep_elim_right.trans <| bigSep_elim (Φ := fun ck : Dev nD × Cell => (reached EX (cell ck) 0 : sProp 𝕄)) (Finset.mem_univ ck)

/-- What a device owes, whatever it has waited on so far. -/
def owing (c : Dev nD) (O : CellTallies nD τ sig Unit) : sProp 𝕄 := iprop(∃ W, owes (c : Thread nD τ) O W)

/-- The output window of a device. -/
def window (c : Dev nD) (f : Win F) : sProp 𝕄 := ((c : Thread nD τ).loc cc0_stg5_0) ↦{fullShare} f

/-- The part of a share of the window that exchange `i` does not lend. -/
def kept (i : Fin 8) (c : Dev nD) : sProp 𝕄 :=
  ((c : Thread nD τ).loc cc0_stg5_0) ↦[Finset.univ \ sent i c]{lent i} source P i c

/-- The two transfers of a round lend disjoint shares of the window; together with what they do not lend they make
up the whole window. -/
theorem window_lend (i j : Fin 8) (c : Dev nD) (f : Win F) (hi : lent i = fullShare.left) (hj : lent j = fullShare.right)
    (si : source P i c = f) (sj : source P j c = f) :
    (window c f : sProp 𝕄) ⊣⊢ iprop((sndPay P i c ∗ kept P i c) ∗ sndPay P j c ∗ kept P j c) := by
  have h := pointsTo_share (Ix := Unit) (Name := ℕ) (U := UA) (Lvl := ℕ) (ℓ := (c : Thread nD τ).loc cc0_stg5_0)
    (I := Finset.univ) (f := f) (q := fullShare) (q₁ := fullShare.left) (q₂ := fullShare.right) (PosShare.mem_left_op_right fullShare)
  have h1 := pointsTo_split_subset (Ix := Unit) (Name := ℕ) (U := UA) (Lvl := ℕ) (ℓ := (c : Thread nD τ).loc cc0_stg5_0)
    (I := sent i c) (S := Finset.univ) (f := f) (q := fullShare.left) (Finset.subset_univ _)
  have h2 := pointsTo_split_subset (Ix := Unit) (Name := ℕ) (U := UA) (Lvl := ℕ) (ℓ := (c : Thread nD τ).loc cc0_stg5_0)
    (I := sent j c) (S := Finset.univ) (f := f) (q := fullShare.right) (Finset.subset_univ _)
  unfold window sndPay kept
  rw [hi, hj, si, sj]
  refine ⟨h.1.trans (BI.sep_mono h1.1 h2.1), (BI.sep_mono h1.2 h2.2).trans h.2⟩

/-- Holding all the positions of a whole buffer's view is holding the buffer. -/
theorem pointsTo_whole (d : Dev nD) (b : Ref sig .tc) (q : PosShare TreeShare) (f : b.ty.Contents (Elt F)) :
    (((Memref.whole b).view.loc (d : Thread nD τ) ↦[(Memref.whole b).view.set]{q} f : sProp 𝕄))
      = ((d : Thread nD τ).loc b ↦{q} f) :=
  congrArg (fun S => ((d : Thread nD τ).loc b ↦[S]{q} f : sProp 𝕄)) (View.set_whole b)

/-- The landing amount of exchange `i`. -/
theorem amount_lnd (i : Fin 8) : (Memref.whole (lnd i) : Memref sig .tc _ _ _).view.amount (.dma (rcvS i)) = units i := by
  fin_cases i <;> rfl

variable (K : Dev nD × Cell → ℕ)

/-- Starting the transfer of exchange `i`: the device lends the rows it sends and gives up the partner's landing
buffer; it owes one transfer less, and holds the credit to wait for its rows. -/
theorem wp_put (i : Fin 8) (c n : Dev nD) (hn : n = par i c) {sS rS : DmaSem sig} (hsS : sS = sndS i) (hrS : rS = rcvS i)
    {src : Memref sig .tc .vmem (lnd i).ty.shape (lnd i).ty.elt} {fs : src.view.ty.Contents (Elt F)}
    (h1 : sndPay P i c = (src.view.loc (c : Thread nD τ) ↦[src.view.set]{lent i} fs : sProp 𝕄))
    (hv : src.view.read (Elt F) fs = landed P i (par i c))
    {hsc : (Memref.whole (lnd i) : Memref sig (Dev.tc n : Thread nD τ).2.kind _ _ _).view.ref.isScScratch = false}
    {hsrc : src.view.WordExact} {hdst : (Memref.whole (lnd i) : Memref sig (Dev.tc n : Thread nD τ).2.kind _ _ _).view.WordExact}
    {hsem : DmaTarget.Typed .vmem (.dma rS) (.remote (Dev.tc n : Thread nD τ) (Memref.whole (lnd i)) (.dma sS) hsc)}
    {α : Type} {Q : α → sProp 𝕄} {k : PUnit → Prog (TpuEff nD τ sig (Elt F) Λ₀ .tc) α} :
    iprop(records P K ∗ sndPay P i c ∗ anyBuf i (par i c) ∗ owing c (oweFrom i.val c)
        ∗ dutyTok EX (sndC i c) 0 false ∗ dutyTok EX (rcvC i (par i c)) 0 false)
      ⊢ iprop(((cred (tallyAt (sndC i c) () (units i)) ∗ owing c (oweFrom (i.val + 1) c))
            -∗ wp frame (wpE (defs₀ (F := F)) Variants.none (c : Thread nD τ) none) Set.univ (k ⟨⟩) Q)
          -∗ wp frame (wpE (defs₀ (F := F)) Variants.none (c : Thread nD τ) none) Set.univ
              (.op (.enqueueDma src (.remote (Dev.tc n : Thread nD τ) (Memref.whole (lnd i)) (.dma sS) hsc) (.dma rS) hsrc hdst hsem) k) Q) := by
  subst hn hsS hrS
  unfold anyBuf buf owing
  rw [h1]
  iintro ⟨#HR, Hsrc, ⟨%fd, Hdst⟩, ⟨%W, HO⟩, Ht1, Ht2⟩ Hk
  iapply (Rounds.wp_send_pointsTo Variants.none EX (Rd P) (c : Thread nD τ) none (κ₁ := K (c, some (false, i)))
    (κ₂ := K (par i c, some (true, i))) (r₁ := 0) (r₂ := 0) (d₁ := false) (d₂ := false) (fs := fs) (fd := fd)
    (by rw [duties_snd]; exact Finset.mem_singleton_self _) (by rw [duties_rcv]; exact Finset.mem_singleton_self _)
    () () (units i) (amount_lnd i) (amount_snd P c i false) (amount_rcv P (par i c) i false)
    (oweFrom (i.val + 1) c) (oweFrom_succ i c) (W := W)
    (by rw [payload_snd, h1])
    (by
      rw [payload_rcv, hv]
      refine (Entails.of_eq (pointsTo_whole (par i c) (lnd i) fullShare _)).trans ?_
      rw [View.write_whole_univ]
      exact BI.Entails.refl _)) $$ [Hsrc Hdst HO Ht1 Ht2]
  · isplitr; · iapply (inv_at P K (c, some (false, i))); iexact HR
    isplitr; · iapply (inv_at P K (par i c, some (true, i))); iexact HR
    isplitl [Hsrc]; · iexact Hsrc
    isplitl [Hdst]; · iapply (Entails.of_eq (pointsTo_whole (par i c) (lnd i) fullShare fd).symm); iexact Hdst
    isplitl [HO]; · iexact HO
    isplitl [Ht1]; · iexact Ht1
    isplitr; · iapply (reached_at P K (c, some (false, i))); iexact HR
    isplitl [Ht2]; · iexact Ht2
    iapply (reached_at P K (par i c, some (true, i))); iexact HR
  iintro ⟨Hc, HO⟩
  iapply Hk
  isplitl [Hc]; · iexact Hc
  iexists W; iexact HO

/-- Waiting until the rows sent in exchange `i` have been read: the lent share comes back. -/
theorem wp_take_snd (i : Fin 8) (c : Dev nD) (n : ℕ) {sS : DmaSem sig} (hsS : sS = sndS i)
    {sp sp' : Space} {s s' : Shape} {e e' : EltTy} {src : Memref sig .tc sp' s' e'} {dst : Memref sig .tc sp s e}
    (hN : dst.view.dmaCredit = units i) {hsrc : src.view.WordExact} {hdst : dst.view.WordExact}
    {α : Type} {Q : α → sProp 𝕄} {k : PUnit → Prog (TpuEff nD τ sig (Elt F) Λ₀ .tc) α} :
    iprop(records P K ∗ levAts L lv ∗ cred (tallyAt (sndC i c) () (units i)) ∗ owing c (oweFrom n c) ∗ atPos EX (sndC i c) 0 ∅ 0)
      ⊢ iprop(((owing c (oweFrom n c) ∗ semVal (sndC i c) 0 ∗ sndPay P i c)
            -∗ wp frame (wpE (defs₀ (F := F)) Variants.none (c : Thread nD τ) none) Set.univ (k ⟨⟩) Q)
          -∗ wp frame (wpE (defs₀ (F := F)) Variants.none (c : Thread nD τ) none) Set.univ
              (.op (.waitDma2 sS src dst hsrc hdst) k) Q) := by
  subst hsS
  unfold owing
  iintro ⟨#HR, #Hlev, Hc, ⟨%W, HO⟩, Hat⟩ Hk
  iapply (Rounds.wp_wait_rest_token Variants.none EX (Rd P) (c : Thread nD τ) none (κ := K (c, some (false, i)))
      (wpE_waitDma2_eq Variants.none (c : Thread nD τ) none Set.univ) (Set.mem_univ _) () (O := oweFrom n c) (W := W)
      (R := 0) (m := 0) (T := ∅) (by rw [Nat.zero_add, hN, expect_snd])) $$ [Hc HO Hat]
  · isplitr; · iapply (inv_at P K (c, some (false, i))); iexact HR
    isplitl [Hc]; · rw [hN]; iexact Hc
    isplitl [HO]; · iexact HO
    isplitr; · iapply (mayWait_from c (.dma (sndS i)) n (by rw [lv_snd]; omega)); iexact Hlev
    iexact Hat
  iintro ⟨HO, Hat, -, Hp⟩
  ihave Hp := (Entails.of_eq (rest_snd P c i)) $$ Hp
  imod (Rounds.cell_close EX (Rd P) (Set.mem_univ (K (c, some (false, i)))) (fun h => h) (R := 0 + 1) (duties_later P (sndC i c))) $$ [Hat] with Hz
  · isplitr; · iapply (inv_at P K (c, some (false, i))); iexact HR
    iexact Hat
  iapply Hk
  isplitl [HO]; · iexists _; iexact HO
  isplitl [Hz]; · iexact Hz
  iexact Hp

/-- Waiting for the arrival of exchange `i`, while the device owes only later transfers: the landing buffer comes
back at what arrived. -/
theorem wp_take_rcv (i : Fin 8) (c : Dev nD) (n : ℕ) (hn : i.val + 1 ≤ n) {rS : DmaSem sig} (hrS : rS = rcvS i)
    {sp sp' : Space} {s s' : Shape} {e e' : EltTy} {src : Memref sig .tc sp' s' e'} {dst : Memref sig .tc sp s e}
    (hN : dst.view.dmaCredit = units i) {hsrc : src.view.WordExact} {hdst : dst.view.WordExact}
    {α : Type} {Q : α → sProp 𝕄} {k : PUnit → Prog (TpuEff nD τ sig (Elt F) Λ₀ .tc) α} :
    iprop(records P K ∗ levAts L lv ∗ cred (tallyAt (rcvC i c) () (units i)) ∗ owing c (oweFrom n c) ∗ atPos EX (rcvC i c) 0 ∅ 0)
      ⊢ iprop(((owing c (oweFrom n c) ∗ semVal (rcvC i c) 0 ∗ buf i c (landed P i c))
            -∗ wp frame (wpE (defs₀ (F := F)) Variants.none (c : Thread nD τ) none) Set.univ (k ⟨⟩) Q)
          -∗ wp frame (wpE (defs₀ (F := F)) Variants.none (c : Thread nD τ) none) Set.univ
              (.op (.waitDma2 rS src dst hsrc hdst) k) Q) := by
  subst hrS
  unfold owing
  iintro ⟨#HR, #Hlev, Hc, ⟨%W, HO⟩, Hat⟩ Hk
  iapply (Rounds.wp_wait_rest_token Variants.none EX (Rd P) (c : Thread nD τ) none (κ := K (c, some (true, i)))
      (wpE_waitDma2_eq Variants.none (c : Thread nD τ) none Set.univ) (Set.mem_univ _) () (O := oweFrom n c) (W := W)
      (R := 0) (m := 0) (T := ∅) (by rw [Nat.zero_add, hN, expect_rcv])) $$ [Hc HO Hat]
  · isplitr; · iapply (inv_at P K (c, some (true, i))); iexact HR
    isplitl [Hc]; · rw [hN]; iexact Hc
    isplitl [HO]; · iexact HO
    isplitr; · iapply (mayWait_from c (.dma (rcvS i)) n (by rw [lv_rcv]; omega)); iexact Hlev
    iexact Hat
  iintro ⟨HO, Hat, -, Hp⟩
  ihave Hp := (Entails.of_eq (rest_rcv P c i)) $$ Hp
  imod (Rounds.cell_close EX (Rd P) (Set.mem_univ (K (c, some (true, i)))) (fun h => h) (R := 0 + 1) (duties_later P (rcvC i c))) $$ [Hat] with Hz
  · isplitr; · iapply (inv_at P K (c, some (true, i))); iexact HR
    iexact Hat
  iapply Hk
  isplitl [HO]; · iexists _; iexact HO
  isplitl [Hz]; · iexact Hz
  unfold rcvPay
  iexact Hp

/-- What a device holds for exchange `i` from the start: its positions on the two semaphores, and the tokens of the two
payments it will make. -/
def tok (i : Fin 8) (c : Dev nD) : sProp 𝕄 :=
  iprop(atPos EX (sndC i c) 0 ∅ 0 ∗ atPos EX (rcvC i c) 0 ∅ 0 ∗ dutyTok EX (sndC i c) 0 false ∗ dutyTok EX (rcvC i (par i c)) 0 false)

/-- The credit to wait for exchange `i`. -/
def tick (i : Fin 8) (c : Dev nD) : sProp 𝕄 := cred (tallyAt (rcvC i c) () (units i))

/-- Both semaphores of exchange `i`, back at zero. -/
def closed (i : Fin 8) (c : Dev nD) : sProp 𝕄 := iprop(semVal (sndC i c) 0 ∗ semVal (rcvC i c) 0)

/-- A whole round: both transfers are started, and each is waited for at both ends.  The window comes back unchanged and
both landing buffers hold what arrived. -/
theorem wp_round (i j : Fin 8) (hij : j.val = i.val + 1) (c ni nj : Dev nD) (f : Win F)
    (li : lent i = fullShare.left) (lj : lent j = fullShare.right) (si : source P i c = f) (sj : source P j c = f)
    (hni : ni = par i c) (hnj : nj = par j c)
    {sSi rSi sSj rSj : DmaSem sig} (hsi : sSi = sndS i) (hri : rSi = rcvS i) (hsj : sSj = sndS j) (hrj : rSj = rcvS j)
    {srci : Memref sig .tc .vmem (lnd i).ty.shape (lnd i).ty.elt} {fi : srci.view.ty.Contents (Elt F)}
    {srcj : Memref sig .tc .vmem (lnd j).ty.shape (lnd j).ty.elt} {fj : srcj.view.ty.Contents (Elt F)}
    (h1i : sndPay P i c = (srci.view.loc (c : Thread nD τ) ↦[srci.view.set]{lent i} fi : sProp 𝕄))
    (h1j : sndPay P j c = (srcj.view.loc (c : Thread nD τ) ↦[srcj.view.set]{lent j} fj : sProp 𝕄))
    (hvi : srci.view.read (Elt F) fi = landed P i (par i c)) (hvj : srcj.view.read (Elt F) fj = landed P j (par j c))
    (hNi : srci.view.dmaCredit = units i) (hNj : srcj.view.dmaCredit = units j)
    (hNi' : (Memref.whole (lnd i) : Memref sig .tc _ _ _).view.dmaCredit = units i)
    (hNj' : (Memref.whole (lnd j) : Memref sig .tc _ _ _).view.dmaCredit = units j)
    {hsci : (Memref.whole (lnd i) : Memref sig (Dev.tc ni : Thread nD τ).2.kind _ _ _).view.ref.isScScratch = false}
    {hsrci : srci.view.WordExact} {hdsti : (Memref.whole (lnd i) : Memref sig (Dev.tc ni : Thread nD τ).2.kind _ _ _).view.WordExact}
    {hsemi : DmaTarget.Typed .vmem (.dma rSi) (.remote (Dev.tc ni : Thread nD τ) (Memref.whole (lnd i)) (.dma sSi) hsci)}
    {hscj : (Memref.whole (lnd j) : Memref sig (Dev.tc nj : Thread nD τ).2.kind _ _ _).view.ref.isScScratch = false}
    {hsrcj : srcj.view.WordExact} {hdstj : (Memref.whole (lnd j) : Memref sig (Dev.tc nj : Thread nD τ).2.kind _ _ _).view.WordExact}
    {hsemj : DmaTarget.Typed .vmem (.dma rSj) (.remote (Dev.tc nj : Thread nD τ) (Memref.whole (lnd j)) (.dma sSj) hscj)}
    {a1 a2 : srci.view.WordExact} {b1 b2 : (Memref.whole (lnd i) : Memref sig .tc _ _ _).view.WordExact}
    {a3 a4 : srcj.view.WordExact} {b3 b4 : (Memref.whole (lnd j) : Memref sig .tc _ _ _).view.WordExact}
    {α : Type} {Q : α → sProp 𝕄} {k : PUnit → Prog (TpuEff nD τ sig (Elt F) Λ₀ .tc) α} :
    iprop(records P K ∗ levAts L lv ∗ window c f ∗ anyBuf i (par i c) ∗ anyBuf j (par j c) ∗ owing c (oweFrom i.val c)
        ∗ (tok i c ∗ tick i c) ∗ tok j c ∗ tick j c)
      ⊢ iprop(((owing c (oweFrom (j.val + 1) c) ∗ window c f ∗ buf i c (landed P i c) ∗ buf j c (landed P j c) ∗ closed i c ∗ closed j c)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma srci (.remote (Dev.tc ni : Thread nD τ) (Memref.whole (lnd i)) (.dma sSi) hsci) (.dma rSi) hsrci hdsti hsemi) fun _ =>
                .op (.enqueueDma srcj (.remote (Dev.tc nj : Thread nD τ) (Memref.whole (lnd j)) (.dma sSj) hscj) (.dma rSj) hsrcj hdstj hsemj) fun _ =>
                .op (.waitDma2 sSi (Memref.whole (lnd i)) srci b1 a1) fun _ =>
                .op (.waitDma2 rSi srci (Memref.whole (lnd i)) a2 b2) fun _ =>
                .op (.waitDma2 sSj (Memref.whole (lnd j)) srcj b3 a3) fun _ =>
                .op (.waitDma2 rSj srcj (Memref.whole (lnd j)) a4 b4) k) Q) := by
  unfold tok tick closed
  iintro ⟨#HR, #Hlev, Hw, Hbi, Hbj, HO, ⟨⟨Hpsi, Hpri, Hdsi, Hdri⟩, Hci⟩, ⟨Hpsj, Hprj, Hdsj, Hdrj⟩, Hcj⟩ Hk
  ihave Hw := (window_lend P i j c f li lj si sj).1 $$ Hw
  icases Hw with ⟨⟨Hsi, Hkeepi⟩, Hsj, Hkeepj⟩
  iapply (wp_put P K i c ni hni hsi hri h1i hvi) $$ [Hsi Hbi HO Hdsi Hdri]
  · isplitr; · iexact HR
    isplitl [Hsi]; · iexact Hsi
    isplitl [Hbi]; · iexact Hbi
    isplitl [HO]; · iexact HO
    isplitl [Hdsi] <;> iassumption
  iintro ⟨Hcsi, HO⟩
  rw [← hij]
  iapply (wp_put P K j c nj hnj hsj hrj h1j hvj) $$ [Hsj Hbj HO Hdsj Hdrj]
  · isplitr; · iexact HR
    isplitl [Hsj]; · iexact Hsj
    isplitl [Hbj]; · iexact Hbj
    isplitl [HO]; · iexact HO
    isplitl [Hdsj] <;> iassumption
  iintro ⟨Hcsj, HO⟩
  iapply (wp_take_snd P K i c (j.val + 1) hsi hNi) $$ [Hcsi HO Hpsi]
  · isplitr; · iexact HR
    isplitr; · iexact Hlev
    isplitl [Hcsi]; · iexact Hcsi
    isplitl [HO] <;> iassumption
  iintro ⟨HO, Hzsi, Hsi⟩
  iapply (wp_take_rcv P K i c (j.val + 1) (by omega) hri hNi') $$ [Hci HO Hpri]
  · isplitr; · iexact HR
    isplitr; · iexact Hlev
    isplitl [Hci]; · iexact Hci
    isplitl [HO] <;> iassumption
  iintro ⟨HO, Hzri, Hli⟩
  iapply (wp_take_snd P K j c (j.val + 1) hsj hNj) $$ [Hcsj HO Hpsj]
  · isplitr; · iexact HR
    isplitr; · iexact Hlev
    isplitl [Hcsj]; · iexact Hcsj
    isplitl [HO] <;> iassumption
  iintro ⟨HO, Hzsj, Hsj⟩
  iapply (wp_take_rcv P K j c (j.val + 1) (by omega) hrj hNj') $$ [Hcj HO Hprj]
  · isplitr; · iexact HR
    isplitr; · iexact Hlev
    isplitl [Hcj]; · iexact Hcj
    isplitl [HO] <;> iassumption
  iintro ⟨HO, Hzrj, Hlj⟩
  iapply Hk
  isplitl [HO]; · iexact HO
  isplitl [Hsi Hkeepi Hsj Hkeepj]
  · iapply (window_lend P i j c f li lj si sj).2
    isplitl [Hsi Hkeepi]; · isplitl [Hsi] <;> iassumption
    isplitl [Hsj] <;> iassumption
  isplitl [Hli]; · iexact Hli
  isplitl [Hlj]; · iexact Hlj
  isplitl [Hzsi Hzri]; · isplitl [Hzsi] <;> iassumption
  isplitl [Hzsj] <;> iassumption

/-- A store into the window of a value known under another name. -/
theorem wp_store_window (c : Dev nD) (f : Win F) {r : Rect S2x512x768} (w w' : r.shape.Idx → Elt F .f32)
    {h1 : (oM.access r : View sig .tc _ _ _).Stores Finset.univ} {h2 : Finset.univ = (Finset.univ : Finset r.shape.Idx) ∨ _} {α : Type} {Q : α → sProp 𝕄} {k : PUnit → Prog (TpuEff nD τ sig (Elt F) Λ₀ .tc) α} :
    iprop(window c f ∗ ⌜w = w'⌝)
      ⊢ iprop((window c (put f r w') -∗ wp frame (wpE (defs₀ (F := F)) Variants.none (c : Thread nD τ) none) Set.univ (k ⟨⟩) Q)
          -∗ wp frame (wpE (defs₀ (F := F)) Variants.none (c : Thread nD τ) none) Set.univ
              (.op (.store oM r w Finset.univ h1 h2) k) Q) := by
  iintro ⟨Hw, %h⟩ Hk
  subst h
  unfold window
  iapply (wp_store Variants.none (c : Thread nD τ) none Set.univ (m := oM) (r := r) (Mk := Finset.univ) (Finset.subset_univ _)) $$ Hw
  iexact Hk

/-- The same, with the resulting window under another name too. -/
theorem wp_store_as (c : Dev nD) (f g : Win F) {r : Rect S2x512x768} (w w' : r.shape.Idx → Elt F .f32)
    {h1 : (oM.access r : View sig .tc _ _ _).Stores Finset.univ} {h2 : Finset.univ = (Finset.univ : Finset r.shape.Idx) ∨ _} {α : Type} {Q : α → sProp 𝕄} {k : PUnit → Prog (TpuEff nD τ sig (Elt F) Λ₀ .tc) α} :
    iprop(window c f ∗ ⌜w = w' ∧ put f r w' = g⌝)
      ⊢ iprop((window c g -∗ wp frame (wpE (defs₀ (F := F)) Variants.none (c : Thread nD τ) none) Set.univ (k ⟨⟩) Q)
          -∗ wp frame (wpE (defs₀ (F := F)) Variants.none (c : Thread nD τ) none) Set.univ
              (.op (.store oM r w Finset.univ h1 h2) k) Q) := by
  iintro ⟨Hw, %h⟩ Hk
  obtain ⟨h, rfl⟩ := h
  iapply (wp_store_window c f w w') $$ [Hw]
  · isplitl [Hw]; · iexact Hw
    ipureintro; exact h
  iexact Hk

/-- A load of a rectangle of the window. -/
theorem wp_load_window (c : Dev nD) (f : Win F) {r : Rect S2x512x768} {hl : _} {α : Type} {Q : α → sProp 𝕄}
    {k : (r.shape.Idx → Elt F .f32) → Prog (TpuEff nD τ sig (Elt F) Λ₀ .tc) α} :
    (window c f : sProp 𝕄)
      ⊢ iprop((window c f -∗ wp frame (wpE (defs₀ (F := F)) Variants.none (c : Thread nD τ) none) Set.univ (k (get f r)) Q)
          -∗ wp frame (wpE (defs₀ (F := F)) Variants.none (c : Thread nD τ) none) Set.univ
              (.op (.load oM r.toLoadRect hl) k) Q) := by
  unfold window
  exact wp_load Variants.none (c : Thread nD τ) none Set.univ (m := oM) (Finset.subset_univ _)

end Cert.KernelIdeal.Exchange

end
-- ==== Proof.Batch.lean ====
/-
# What a device computes on its own

For one batch entry a device multiplies the entry's rows by its 512 columns of `Wq`, attends with each of its 8 heads, and
multiplies the 512 head outputs by its 512 rows of `Wo`.  Rows are first regrouped so that the two blocks of 64 rows that
attend to each other, `g` and `g + 4`, lie side by side; each group of 128 rows is then a dense attention of its own.
-/
module

public import proofs.«01_k».proof.Proof.Stages
public import Idealize.ShloMosaic.Lib.WritesUnit

@[expose] public section

noncomputable section

namespace Cert.KernelIdeal.Exchange

open Cert.KernelIdeal Cert.KernelIdeal.Gen
open Idealize.ShloMosaic Idealize.ShloMosaic.TcCoe

variable {F : FTy → Type} [FloatOps F]

/-- The blocks of 64 rows in the order 0, 4, 1, 5, 2, 6, 3, 7. -/
def regroup (q : FVec F S512x512 .f32) : FVec F S512x512 .f32 :=
  concatenate S512x512 0
    [⟨S64x512, extractStridedSlice S64x512 ![0, 0] q slices_S512x512_o0_0_S64x512⟩,
     ⟨S64x512, extractStridedSlice S64x512 ![256, 0] q slices_S512x512_o256_0_S64x512⟩,
     ⟨S64x512, extractStridedSlice S64x512 ![64, 0] q slices_S512x512_o64_0_S64x512⟩,
     ⟨S64x512, extractStridedSlice S64x512 ![320, 0] q slices_S512x512_o320_0_S64x512⟩,
     ⟨S64x512, extractStridedSlice S64x512 ![128, 0] q slices_S512x512_o128_0_S64x512⟩,
     ⟨S64x512, extractStridedSlice S64x512 ![384, 0] q slices_S512x512_o384_0_S64x512⟩,
     ⟨S64x512, extractStridedSlice S64x512 ![192, 0] q slices_S512x512_o192_0_S64x512⟩,
     ⟨S64x512, extractStridedSlice S64x512 ![448, 0] q slices_S512x512_o448_0_S64x512⟩]
    concatenates_S64x512_S64x512_S64x512_S64x512_S64x512_S64x512_S64x512_S64x512_S512x512_d0

/-- The same regrouping of the rows of the keys or the values. -/
def regroupHeads (k : FVec F S512x8x64 .f32) : FVec F S512x8x64 .f32 :=
  concatenate S512x8x64 0
    [⟨S64x8x64, extractStridedSlice S64x8x64 ![0, 0, 0] k slices_S512x8x64_o0_0_0_S64x8x64⟩,
     ⟨S64x8x64, extractStridedSlice S64x8x64 ![256, 0, 0] k slices_S512x8x64_o256_0_0_S64x8x64⟩,
     ⟨S64x8x64, extractStridedSlice S64x8x64 ![64, 0, 0] k slices_S512x8x64_o64_0_0_S64x8x64⟩,
     ⟨S64x8x64, extractStridedSlice S64x8x64 ![320, 0, 0] k slices_S512x8x64_o320_0_0_S64x8x64⟩,
     ⟨S64x8x64, extractStridedSlice S64x8x64 ![128, 0, 0] k slices_S512x8x64_o128_0_0_S64x8x64⟩,
     ⟨S64x8x64, extractStridedSlice S64x8x64 ![384, 0, 0] k slices_S512x8x64_o384_0_0_S64x8x64⟩,
     ⟨S64x8x64, extractStridedSlice S64x8x64 ![192, 0, 0] k slices_S512x8x64_o192_0_0_S64x8x64⟩,
     ⟨S64x8x64, extractStridedSlice S64x8x64 ![448, 0, 0] k slices_S512x8x64_o448_0_0_S64x8x64⟩]
    concatenates_S64x8x64_S64x8x64_S64x8x64_S64x8x64_S64x8x64_S64x8x64_S64x8x64_S64x8x64_S512x8x64_d0

/-- The rows back in their own order. -/
def ungroup (q : FVec F S512x512 .f32) : FVec F S512x512 .f32 :=
  concatenate S512x512 0
    [⟨S64x512, extractStridedSlice S64x512 ![0, 0] q slices_S512x512_o0_0_S64x512⟩,
     ⟨S64x512, extractStridedSlice S64x512 ![128, 0] q slices_S512x512_o128_0_S64x512⟩,
     ⟨S64x512, extractStridedSlice S64x512 ![256, 0] q slices_S512x512_o256_0_S64x512⟩,
     ⟨S64x512, extractStridedSlice S64x512 ![384, 0] q slices_S512x512_o384_0_S64x512⟩,
     ⟨S64x512, extractStridedSlice S64x512 ![64, 0] q slices_S512x512_o64_0_S64x512⟩,
     ⟨S64x512, extractStridedSlice S64x512 ![192, 0] q slices_S512x512_o192_0_S64x512⟩,
     ⟨S64x512, extractStridedSlice S64x512 ![320, 0] q slices_S512x512_o320_0_S64x512⟩,
     ⟨S64x512, extractStridedSlice S64x512 ![448, 0] q slices_S512x512_o448_0_S64x512⟩]
    concatenates_S64x512_S64x512_S64x512_S64x512_S64x512_S64x512_S64x512_S64x512_S512x512_d0

theorem slices_piece : ∀ (g : Fin 4) (h : Fin 8), S512x512.Slices ![128 * g.val, 64 * h.val] S128x64 := by decide

theorem slices_heads : ∀ (g : Fin 4) (h : Fin 8), S512x8x64.Slices ![128 * g.val, h.val, 0] S128x1x64 := by decide

/-- The exponentials of the scaled scores of a group of 128 rows. -/
def scoreExp (q k : FVec F S128x64 .f32) : FVec F S128x128 .f32 :=
  exp (mulf (matmul dot_S128x64_S128x64_S128x128_1_1_0_0_n_n none q k (constant S128x128 .f32 0x00000000#32))
    (broadcast S128x128 (Scalar.ofBits .f32 0x3E000000#32)))

/-- Attention within a group of 128 rows. -/
def attend (q k v : FVec F S128x64 .f32) : FVec F S128x64 .f32 :=
  mulf (matmul dot_S128x128_S128x64_S128x64_1_0_0_1_n_n none (scoreExp q k) v (constant S128x64 .f32 0x00000000#32))
    (broadcastTo S128x64
      (divf (broadcast S128x1 (Scalar.ofBits .f32 0x3F800000#32))
        (shapeCast S128x1 (multiReduction .add [1] S128 (scoreExp q k) 0x00000000#32 reduces_S128x128_S128 (.inl rfl) rfl)
          shapeCasts_S128_S128x1))
      broadcasts_S128x1_S128x64)

/-- Head `h`'s attention in group `g`, from the regrouped queries, keys and values. -/
def piece (q : FVec F S512x512 .f32) (k v : FVec F S512x8x64 .f32) (g : Fin 4) (h : Fin 8) : FVec F S128x64 .f32 :=
  attend (extractStridedSlice S128x64 ![128 * g.val, 64 * h.val] q (slices_piece g h))
    (shapeCast S128x64 (extractStridedSlice S128x1x64 ![128 * g.val, h.val, 0] k (slices_heads g h)) shapeCasts_S128x1x64_S128x64)
    (shapeCast S128x64 (extractStridedSlice S128x1x64 ![128 * g.val, h.val, 0] v (slices_heads g h)) shapeCasts_S128x1x64_S128x64)

/-- Head `h`'s attention of all 512 rows. -/
def headOut (q : FVec F S512x512 .f32) (k v : FVec F S512x8x64 .f32) (h : Fin 8) : FVec F S512x64 .f32 :=
  concatenate S512x64 0 [⟨S128x64, piece q k v 0 h⟩, ⟨S128x64, piece q k v 1 h⟩, ⟨S128x64, piece q k v 2 h⟩, ⟨S128x64, piece q k v 3 h⟩]
    concatenates_S128x64_S128x64_S128x64_S128x64_S512x64_d0

/-- All 8 heads' attention side by side. -/
def headsOut (q : FVec F S512x512 .f32) (k v : FVec F S512x8x64 .f32) : FVec F S512x512 .f32 :=
  concatenate S512x512 1
    [⟨S512x64, headOut q k v 0⟩, ⟨S512x64, headOut q k v 1⟩, ⟨S512x64, headOut q k v 2⟩, ⟨S512x64, headOut q k v 3⟩,
     ⟨S512x64, headOut q k v 4⟩, ⟨S512x64, headOut q k v 5⟩, ⟨S512x64, headOut q k v 6⟩, ⟨S512x64, headOut q k v 7⟩]
    concatenates_S512x64_S512x64_S512x64_S512x64_S512x64_S512x64_S512x64_S512x64_S512x512_d1

/-- The queries of a batch entry. -/
def queries (wq : Vec F S768x512 .f32) (x : Vec F S1x512x768 .f32) : FVec F S512x512 .f32 :=
  matmul dot_S512x768_S768x512_S512x512_1_0_0_1_n_n none (shapeCast S512x768 x shapeCasts_S1x512x768_S512x768)
    (shapeCast S768x512 wq shapeCasts_S768x512_S768x512) (constant S512x512 .f32 0x00000000#32)

/-- A batch entry's product of the device's heads with its rows of `Wo`. -/
def batch (wq : Vec F S768x512 .f32) (wo : Vec F S512x768 .f32) (x : Vec F S1x512x768 .f32) (k v : Vec F S1x512x8x64 .f32) :
    FVec F S1x512x768 .f32 :=
  shapeCast S1x512x768
    (matmul dot_S512x512_S512x768_S512x768_1_0_0_1_n_n none
      (ungroup (headsOut (regroup (queries wq x)) (regroupHeads (shapeCast S512x8x64 k shapeCasts_S1x512x8x64_S512x8x64))
        (regroupHeads (shapeCast S512x8x64 v shapeCasts_S1x512x8x64_S512x8x64))))
      (shapeCast S512x768 wo shapeCasts_S512x768_S512x768) (constant S512x768 .f32 0x00000000#32))
    shapeCasts_S512x768_S1x512x768

/-- A device's arguments as its body finds them. -/
structure Args (F : FTy → Type) where
  /-- The activations. -/
  x : (cc0_stg0_0 : Ref sig .tc).ty.Contents (Elt F)
  /-- The query weights. -/
  wq : (cc0_stg1_0 : Ref sig .tc).ty.Contents (Elt F)
  /-- The device's keys. -/
  k : (cc0_stg2_0 : Ref sig .tc).ty.Contents (Elt F)
  /-- The device's values. -/
  v : (cc0_stg3_0 : Ref sig .tc).ty.Contents (Elt F)
  /-- The output weights. -/
  wo : (cc0_stg4_0 : Ref sig .tc).ty.Contents (Elt F)

/-- Device `c`'s columns of the query weights. -/
def myWq (c : Dev nD) (A : Args F) : Vec F S768x512 .f32 :=
  (Memref.whole cc0_stg1_0 : Memref sig .tc _ _ _).view.readAt (Elt F)
    (Rect.unit (s := S768x2048) (k0_off1 c) S768x512.size (k0_off1_inb c)).toLoadRect A.wq

/-- Device `c`'s rows of the output weights. -/
def myWo (c : Dev nD) (A : Args F) : Vec F S512x768 .f32 :=
  (Memref.whole cc0_stg4_0 : Memref sig .tc _ _ _).view.readAt (Elt F)
    (Rect.unit (s := S2048x768) (k0_off2 c) S512x768.size (k0_off2_inb c)).toLoadRect A.wo

/-- The first batch entry of device `c`'s product. -/
def batch0 (c : Dev nD) (A : Args F) : FVec F S1x512x768 .f32 :=
  batch (myWq c A) (myWo c A)
    ((Memref.whole cc0_stg0_0 : Memref sig .tc _ _ _).view.readAt (Elt F)
      (Rect.unit (s := S2x512x768) ![0, 0, 0] S1x512x768.size inb_S2x512x768_S1x512x768_0_0_0).toLoadRect A.x)
    ((Memref.whole cc0_stg2_0 : Memref sig .tc _ _ _).view.readAt (Elt F)
      (Rect.unit (s := S2x512x8x64) ![0, 0, 0, 0] S1x512x8x64.size inb_S2x512x8x64_S1x512x8x64_0_0_0_0).toLoadRect A.k)
    ((Memref.whole cc0_stg3_0 : Memref sig .tc _ _ _).view.readAt (Elt F)
      (Rect.unit (s := S2x512x8x64) ![0, 0, 0, 0] S1x512x8x64.size inb_S2x512x8x64_S1x512x8x64_0_0_0_0).toLoadRect A.v)

/-- The second batch entry of device `c`'s product. -/
def batch1 (c : Dev nD) (A : Args F) : FVec F S1x512x768 .f32 :=
  batch (myWq c A) (myWo c A)
    ((Memref.whole cc0_stg0_0 : Memref sig .tc _ _ _).view.readAt (Elt F)
      (Rect.unit (s := S2x512x768) ![1, 0, 0] S1x512x768.size inb_S2x512x768_S1x512x768_1_0_0).toLoadRect A.x)
    ((Memref.whole cc0_stg2_0 : Memref sig .tc _ _ _).view.readAt (Elt F)
      (Rect.unit (s := S2x512x8x64) ![1, 0, 0, 0] S1x512x8x64.size inb_S2x512x8x64_S1x512x8x64_1_0_0_0).toLoadRect A.k)
    ((Memref.whole cc0_stg3_0 : Memref sig .tc _ _ _).view.readAt (Elt F)
      (Rect.unit (s := S2x512x8x64) ![1, 0, 0, 0] S1x512x8x64.size inb_S2x512x8x64_S1x512x8x64_1_0_0_0).toLoadRect A.v)

/-- The rectangle of the first batch entry. -/
abbrev entry0 : Rect S2x512x768 := Rect.unit (s := S2x512x768) ![0, 0, 0] S1x512x768.size inb_S2x512x768_S1x512x768_0_0_0

/-- The rectangle of the second batch entry. -/
abbrev entry1 : Rect S2x512x768 := Rect.unit (s := S2x512x768) ![1, 0, 0] S1x512x768.size inb_S2x512x768_S1x512x768_1_0_0

/-- Position `(0, i, j)` of a single batch entry. -/
def inEntry (j : S2x512x768.Idx) : S1x512x768.Idx := fun a => match a with
  | ⟨0, _⟩ => (0 : Fin 1)
  | ⟨1, _⟩ => (j 1 : Fin 512)
  | ⟨2, _⟩ => (j 2 : Fin 768)

/-- Device `c`'s product: what its output window holds before the exchanges. -/
def product (c : Dev nD) (A : Args F) : Win F := fun j : S2x512x768.Idx =>
  if (j 0).val = 0 then batch0 c A (inEntry j) else batch1 c A (inEntry j)

/-- A position of the rectangle of a batch entry is the entry's own. -/
theorem entry_pos {o : Fin 3 → ℕ} (inb : ∀ a, o a + S1x512x768.size a ≤ S2x512x768.size a) (j : S2x512x768.Idx)
    (h0 : o 0 = (j 0).val) (h1 : o 1 = 0) (h2 : o 2 = 0) (a : Fin 3) : (j a).val = o a + (inEntry j a).val := by
  fin_cases a
  · exact h0.symm
  · exact (Nat.zero_add _).symm.trans (congrArg (· + _) h1.symm)
  · exact (Nat.zero_add _).symm.trans (congrArg (· + _) h2.symm)

/-- A position inside a replaced rectangle reads the replacement. -/
theorem put_in (f : Win F) {off size : Fin 3 → ℕ} (inb : ∀ a, off a + size a ≤ S2x512x768.size a)
    (w : (Rect.unit (s := S2x512x768) off size inb).shape.Idx → Elt F .f32) (j : S2x512x768.Idx)
    (x : (Rect.unit (s := S2x512x768) off size inb).shape.Idx) (hx : ∀ a, (j a).val = off a + (x a).val) :
    put f (Rect.unit (s := S2x512x768) off size inb) w j = w x :=
  View.read_writes_cons_unit_of_mem (Val := Elt F) oM.view f inb w [] j x rfl hx

/-- A position outside a replaced rectangle reads what was there. -/
theorem put_out (f : Win F) {off size : Fin 3 → ℕ} (inb : ∀ a, off a + size a ≤ S2x512x768.size a)
    (w : (Rect.unit (s := S2x512x768) off size inb).shape.Idx → Elt F .f32) (j : S2x512x768.Idx) (a : Fin 3)
    (ha : (j a).val < off a ∨ off a + size a ≤ (j a).val) :
    put f (Rect.unit (s := S2x512x768) off size inb) w j = f j :=
  View.read_writes_cons_unit_of_not_mem (Val := Elt F) oM.view f inb w [] j rfl a ha

/-- Writing two batch entries leaves each at its own positions, whatever the window held. -/
theorem put_entries (f : Win F) (w0 w1 : FVec F S1x512x768 .f32) :
    put (put f entry0 w0) entry1 w1 = fun j : S2x512x768.Idx => if (j 0).val = 0 then w0 (inEntry j) else w1 (inEntry j) := by
  funext j
  change S2x512x768.Idx at j
  have hj0 : (j 0).val < 2 := (j 0).isLt
  by_cases h : (j 0).val = 0
  · rw [if_pos h]
    exact (put_out _ inb_S2x512x768_S1x512x768_1_0_0 w1 j 0 (.inl (by rw [h]; exact Nat.zero_lt_one))).trans
      (put_in f inb_S2x512x768_S1x512x768_0_0_0 w0 j (inEntry j) (entry_pos inb_S2x512x768_S1x512x768_0_0_0 j h.symm rfl rfl))
  · rw [if_neg h]
    exact put_in _ inb_S2x512x768_S1x512x768_1_0_0 w1 j (inEntry j)
      (entry_pos inb_S2x512x768_S1x512x768_1_0_0 j (by show 1 = (j 0).val; omega) rfl rfl)

/-- Writing both of the device's batch entries leaves its product. -/
theorem put_batches (c : Dev nD) (A : Args F) (f : Win F) :
    put (put f entry0 (batch0 c A)) entry1 (batch1 c A) = product c A :=
  put_entries f (batch0 c A) (batch1 c A)

end Cert.KernelIdeal.Exchange

end
-- ==== Proof.Body.lean ====
/-
# The body of a device

One device's run, from the barrier through its own product and the four rounds of exchanges.
-/
module

public import proofs.«01_k».proof.Proof.Steps
public import proofs.«01_k».proof.Proof.Batch

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

/-- The window of each device before the exchanges, from all the devices' arguments. -/
abbrev product' (A : Dev nD → Args F) (c : Dev nD) : Win F := product c (A c)

/-- Eight resources, one for each exchange. -/
theorem each_exchange (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- What a device starts from, when the cells follow the schedule under the names `K`. -/
def ghost (A : Dev nD → Args F) (K : Dev nD × Cell → ℕ) (c : Dev nD) : sProp 𝕄 :=
  iprop(records (product' A) K ∗ atPos EX (barC c) 0 ∅ 0 ∗ dutyTok EX (barC (p1 c)) 0 false ∗ dutyTok EX (barC (p2 c)) 0 true
    ∗ bigSep Finset.univ fun i : Fin 8 => tok i c)

/-- The credits a device starts from, and the levels of the cells. -/
def credits (c : Dev nD) : sProp 𝕄 :=
  iprop(cred (tallyAt (barC c) () 2) ∗ (bigSep Finset.univ fun i : Fin 8 => tick i c) ∗ levAts L lv)

/-- The landing buffers, at any contents. -/
def landings (c : Dev nD) : sProp 𝕄 := bigSep Finset.univ fun i : Fin 8 => anyBuf i c

/-- The device's arguments, in its staging buffers. -/
def inputs (c : Dev nD) (A : Args F) : sProp 𝕄 :=
  iprop((((c : Thread nD τ).loc cc0_stg0_0) ↦{fullShare} A.x) ∗ (((c : Thread nD τ).loc cc0_stg1_0) ↦{fullShare} A.wq)
    ∗ (((c : Thread nD τ).loc cc0_stg2_0) ↦{fullShare} A.k) ∗ (((c : Thread nD τ).loc cc0_stg3_0) ↦{fullShare} A.v)
    ∗ (((c : Thread nD τ).loc cc0_stg4_0) ↦{fullShare} A.wo))

/-- What a device is left with: its landing buffers, and all its semaphores back at zero. -/
def rest (c : Dev nD) : sProp 𝕄 :=
  iprop(landings c ∗ (bigSep Finset.univ fun i : Fin 8 => closed i c) ∗ semVal (barC c) 0)

theorem off3_zero : (![0, 0, 0] : Fin 3 → ℕ) = fun _ => 0 := funext fun a => by fin_cases a <;> rfl

/-- The credit of a transfer of 128 rows. -/
theorem credit_wide (off inb) : (oM.slice (wide off inb) fun _ => rfl).view.dmaCredit = RefSig.tileCredit S2x128x768 .f32 := rfl

/-- The credit of a transfer of 64 rows. -/
theorem credit_slim (off inb) : (oM.slice (slim off inb) fun _ => rfl).view.dmaCredit = RefSig.tileCredit S2x64x768 .f32 := rfl

theorem credit_into (i : Fin 8) :
    units i = (![RefSig.tileCredit S2x128x768 .f32, RefSig.tileCredit S2x128x768 .f32, RefSig.tileCredit S2x64x768 .f32,
      RefSig.tileCredit S2x64x768 .f32, RefSig.tileCredit S2x64x768 .f32, RefSig.tileCredit S2x64x768 .f32,
      RefSig.tileCredit S2x128x768 .f32, RefSig.tileCredit S2x128x768 .f32] : Fin 8 → ℕ) i := by
  fin_cases i <;> exact rfl

variable (P : Dev nD → Win F)

/-- The rows a device lends to a transfer are the rows the transfer reads. -/
theorem lends_wide (i : Fin 8) (c : Dev nD) (f : Win F) (off inb) (hf : source P i c = f)
    (hs : sent i c = (oM.slice (wide off inb) fun _ => rfl).view.set) :
    (sndPay P i c : sProp 𝕄) = ((oM.slice (wide off inb) fun _ => rfl).view.loc (c : Thread nD τ)
      ↦[(oM.slice (wide off inb) fun _ => rfl).view.set]{lent i} f) := by
  unfold sndPay; rw [hf, hs]

/-- The rows a device lends to a transfer are the rows the transfer reads. -/
theorem lends_slim (i : Fin 8) (c : Dev nD) (f : Win F) (off inb) (hf : source P i c = f)
    (hs : sent i c = (oM.slice (slim off inb) fun _ => rfl).view.set) :
    (sndPay P i c : sProp 𝕄) = ((oM.slice (slim off inb) fun _ => rfl).view.loc (c : Thread nD τ)
      ↦[(oM.slice (slim off inb) fun _ => rfl).view.set]{lent i} f) := by
  unfold sndPay; rw [hf, hs]

/-- The credit of a transfer into a landing buffer. -/
theorem credit_lnd (i : Fin 8) : (Memref.whole (lnd i) : Memref sig .tc _ _ _).view.dmaCredit = units i := by
  fin_cases i <;> rfl

theorem dev3_eq (c : Dev nD) : (⟨k0_dev3 c, k0_dev3_lt c⟩ : Dev nD) = par 0 c := by revert c; decide
theorem dev4_eq (c : Dev nD) : (⟨k0_dev4 c, k0_dev4_lt c⟩ : Dev nD) = par 1 c := by revert c; decide
theorem dev5_eq (c : Dev nD) : (⟨k0_dev5 c, k0_dev5_lt c⟩ : Dev nD) = par 2 c := by revert c; decide
theorem dev6_eq (c : Dev nD) : (⟨k0_dev6 c, k0_dev6_lt c⟩ : Dev nD) = par 3 c := by revert c; decide
theorem dev7_eq (c : Dev nD) : (⟨k0_dev7 c, k0_dev7_lt c⟩ : Dev nD) = par 4 c := by revert c; decide
theorem dev8_eq (c : Dev nD) : (⟨k0_dev8 c, k0_dev8_lt c⟩ : Dev nD) = par 5 c := by revert c; decide
theorem dev9_eq (c : Dev nD) : (⟨k0_dev9 c, k0_dev9_lt c⟩ : Dev nD) = par 6 c := by revert c; decide
theorem dev10_eq (c : Dev nD) : (⟨k0_dev10 c, k0_dev10_lt c⟩ : Dev nD) = par 7 c := by revert c; decide

theorem got0 (c : Dev nD) : (buf 0 c (landed P 0 c) : sProp 𝕄)
    = (((c : Thread nD τ).loc cc0_scratch0) ↦{fullShare} (land0 P c : (cc0_scratch0 : Ref sig .tc).ty.Contents (Elt F))) := rfl
theorem got1 (c : Dev nD) : (buf 1 c (landed P 1 c) : sProp 𝕄)
    = (((c : Thread nD τ).loc cc0_scratch1) ↦{fullShare} (land1 P c : (cc0_scratch1 : Ref sig .tc).ty.Contents (Elt F))) := rfl
theorem got2 (c : Dev nD) : (buf 2 c (landed P 2 c) : sProp 𝕄)
    = (((c : Thread nD τ).loc cc0_scratch2) ↦{fullShare} (land2 P c : (cc0_scratch2 : Ref sig .tc).ty.Contents (Elt F))) := rfl
theorem got3 (c : Dev nD) : (buf 3 c (landed P 3 c) : sProp 𝕄)
    = (((c : Thread nD τ).loc cc0_scratch3) ↦{fullShare} (land3 P c : (cc0_scratch3 : Ref sig .tc).ty.Contents (Elt F))) := rfl
theorem got4 (c : Dev nD) : (buf 4 c (landed P 4 c) : sProp 𝕄)
    = (((c : Thread nD τ).loc cc0_scratch4) ↦{fullShare} (land4 P c : (cc0_scratch4 : Ref sig .tc).ty.Contents (Elt F))) := rfl
theorem got5 (c : Dev nD) : (buf 5 c (landed P 5 c) : sProp 𝕄)
    = (((c : Thread nD τ).loc cc0_scratch5) ↦{fullShare} (land5 P c : (cc0_scratch5 : Ref sig .tc).ty.Contents (Elt F))) := rfl
theorem got6 (c : Dev nD) : (buf 6 c (landed P 6 c) : sProp 𝕄)
    = (((c : Thread nD τ).loc cc0_scratch6) ↦{fullShare} (land6 P c : (cc0_scratch6 : Ref sig .tc).ty.Contents (Elt F))) := rfl
theorem got7 (c : Dev nD) : (buf 7 c (landed P 7 c) : sProp 𝕄)
    = (((c : Thread nD τ).loc cc0_scratch7) ↦{fullShare} (land7 P c : (cc0_scratch7 : Ref sig .tc).ty.Contents (Elt F))) := rfl

set_option maxRecDepth 100000 in
set_option maxHeartbeats 1000000 in
/-- The body of device `c`: from its arguments, its window at any contents and its landing buffers, it leaves the window
at the exchanged products. -/
theorem sound_body (A : Dev nD → Args F) (K : Dev nD × Cell → ℕ) (c : Dev nD) (f0 : Win F) (Kt : PUnit → sProp 𝕄) :
    iprop((ghost A K c ∗ credits c ∗ landings c ∗ owing c (owe₀ c) ∗ inputs c (A c) ∗ window c f0)
        ∗ ((rest c ∗ owing c 0 ∗ inputs c (A c) ∗ window c (stage4 (product' A) c)) -∗ Kt ⟨⟩))
      ⊢ wp frame (wpE (defs₀ (F := F)) Variants.none (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            cc0_scratch8 cc0_scratch9) Kt := by
  rw [cc0_body_eq_skeleton]; unfold cc0_body_skel
  simp only [k0_part1_eq_skeleton, k0_part1_skel,
    k0_part2_eq_skeleton, k0_part2_skel,
    k0_part3_eq_skeleton, k0_part3_skel,
    k0_part4_eq_skeleton, k0_part4_skel,
    k0_part5_eq_skeleton, k0_part5_skel,
    k0_part6_eq_skeleton, k0_part6_skel,
    k0_part7_eq_skeleton, k0_part7_skel,
    k0_part8_eq_skeleton, k0_part8_skel,
    k0_part9_eq_skeleton, k0_part9_skel,
    k0_part10_eq_skeleton, k0_part10_skel,
    k0_part11_eq_skeleton, k0_part11_skel,
    k0_part12_eq_skeleton, k0_part12_skel,
    k0_part13_eq_skeleton, k0_part13_skel,
    k0_part14_eq_skeleton, k0_part14_skel,
    k0_part15_eq_skeleton, k0_part15_skel,
    k0_part16_eq_skeleton, k0_part16_skel,
    k0_part17_eq_skeleton, k0_part17_skel,
    k0_part18_eq_skeleton, k0_part18_skel,
    k0_part19_eq_skeleton, k0_part19_skel,
    k0_part20_eq_skeleton, k0_part20_skel,
    k0_part21_eq_skeleton, k0_part21_skel,
    k0_part22_eq_skeleton, k0_part22_skel,
    k0_part23_eq_skeleton, k0_part23_skel,
    k0_part24_eq_skeleton, k0_part24_skel,
    k0_part25_eq_skeleton, k0_part25_skel,
    k0_part26_eq_skeleton, k0_part26_skel,
    k0_part27_eq_skeleton, k0_part27_skel,
    k0_part28_eq_skeleton, k0_part28_skel,
    k0_part29_eq_skeleton, k0_part29_skel,
    k0_part30_eq_skeleton, k0_part30_skel,
    k0_part31_eq_skeleton, k0_part31_skel,
    k0_part32_eq_skeleton, k0_part32_skel,
    k0_part33_eq_skeleton, k0_part33_skel,
    semSignalWord, semWaitWord, Prog.lift, Prog.bind_op, Prog.bind_ret, Prog.pure_eq_ret, wp_deviceId]
  unfold ghost credits landings rest inputs
  simp only [each_exchange]
  iintro ⟨⟨⟨#HR, HatB, HtB1, HtB2, Ht0, Ht1, Ht2, Ht3, Ht4, Ht5, Ht6, Ht7⟩, ⟨HcB, ⟨Hc0, Hc1, Hc2, Hc3, Hc4, Hc5, Hc6, Hc7⟩, #Hlev⟩,
    ⟨Ha0, Ha1, Ha2, Ha3, Ha4, Ha5, Ha6, Ha7⟩, HO, ⟨Hx, Hwq, Hk, Hv, Hwo⟩, Hw⟩, Hend⟩
  ihave HO := (show (owing c (owe₀ c) : sProp 𝕄) ⊢ iprop(∃ W, owes (c : Thread nD τ) (owe₀ c) W) from BI.Entails.refl _) $$ HO
  icases HO with ⟨%W, HO⟩
  unfold owe₀
  -- a unit to partner one's barrier, with the buffers it will fill
  rw [show (⟨k0_dev1 c, k0_dev1_lt c⟩ : Dev nD) = p1 c by revert c; decide,
    show (⟨k0_dev2 c, k0_dev2_lt c⟩ : Dev nD) = p2 c by revert c; decide]
  iapply (Rounds.wp_signal Variants.none EX (Rd (product' A)) (c : Thread nD τ) none (dst := (p1 c : Thread nD τ)) (κ := K (p1 c, none))
      (d := false) (by rw [duties_bar]; exact Finset.mem_univ _) ((amount_bar (product' A) (p1 c) false).trans (by decide)) ()
      (oweFrom 0 c + tallyAt (barC (p2 c)) () 1) rfl) $$ [HO HtB1 Ha0 Ha3 Ha5 Ha6]
  · isplitr; · iapply (inv_at (product' A) K (p1 c, none)); iexact HR
    isplitl [HO]; · iexact HO
    isplitl [HtB1]; · iexact HtB1
    isplitl [Ha0 Ha3 Ha5 Ha6]
    · rw [payload_bar_false, p1_p1]; unfold hands1
      isplitl [Ha0]; · iexact Ha0
      isplitl [Ha3]; · iexact Ha3
      isplitl [Ha5] <;> iassumption
    iapply (reached_at (product' A) K (p1 c, none)); iexact HR
  iintro HO
  -- and one to partner two's
  iapply (Rounds.wp_signal Variants.none EX (Rd (product' A)) (c : Thread nD τ) none (dst := (p2 c : Thread nD τ)) (κ := K (p2 c, none))
      (d := true) (by rw [duties_bar]; exact Finset.mem_univ _) ((amount_bar (product' A) (p2 c) true).trans (by decide)) ()
      (oweFrom 0 c) rfl) $$ [HO HtB2 Ha1 Ha2 Ha4 Ha7]
  · isplitr; · iapply (inv_at (product' A) K (p2 c, none)); iexact HR
    isplitl [HO]; · iexact HO
    isplitl [HtB2]; · iexact HtB2
    isplitl [Ha1 Ha2 Ha4 Ha7]
    · rw [payload_bar_true, p2_p2]; unfold hands2
      isplitl [Ha1]; · iexact Ha1
      isplitl [Ha2]; · iexact Ha2
      isplitl [Ha4] <;> iassumption
    iapply (reached_at (product' A) K (p2 c, none)); iexact HR
  iintro HO
  -- both partners have arrived: their buffers are this device's to fill
  iapply (Rounds.wp_wait_rest_token Variants.none EX (Rd (product' A)) (c : Thread nD τ) none (κ := K (c, none))
      (wpE_semWait_eq Variants.none (c : Thread nD τ) none Set.univ) (Set.mem_univ _) () (O := oweFrom 0 c) (W := W) (R := 0) (m := 0) (T := ∅)
      (by rw [expect_bar]; decide)) $$ [HcB HO HatB]
  · isplitr; · iapply (inv_at (product' A) K (c, none)); iexact HR
    isplitl [HcB]; · iexact HcB
    isplitl [HO]; · iexact HO
    isplitr; · iapply (mayWait_from c (.reg barS) 0 (by rw [lv_bar])); iexact Hlev
    iexact HatB
  iintro ⟨HO, HatB, -, Hp⟩
  ihave Hp := (Entails.of_eq (rest_bar (product' A) c)) $$ Hp
  unfold hands1 hands2
  icases Hp with ⟨⟨Hb0, Hb3, Hb5, Hb6⟩, Hb1, Hb2, Hb4, Hb7⟩
  imod (Rounds.cell_close EX (Rd (product' A)) (Set.mem_univ (K (c, none))) (fun h => h) (R := 0 + 1) (duties_later (product' A) (barC c))) $$ [HatB] with HzB
  · isplitr; · iapply (inv_at (product' A) K (c, none)); iexact HR
    iexact HatB
  -- the device's own product
  iapply (wp_load Variants.none (c : Thread nD τ) none Set.univ (m := Memref.whole cc0_stg1_0) (Finset.subset_univ _)) $$ Hwq; iintro Hwq
  iapply (wp_load Variants.none (c : Thread nD τ) none Set.univ (m := Memref.whole cc0_stg4_0) (Finset.subset_univ _)) $$ Hwo; iintro Hwo
  iapply (wp_load Variants.none (c : Thread nD τ) none Set.univ (m := Memref.whole cc0_stg0_0) (Finset.subset_univ _)) $$ Hx; iintro Hx
  iapply (wp_load Variants.none (c : Thread nD τ) none Set.univ (m := Memref.whole cc0_stg2_0) (Finset.subset_univ _)) $$ Hk; iintro Hk
  iapply (wp_load Variants.none (c : Thread nD τ) none Set.univ (m := Memref.whole cc0_stg3_0) (Finset.subset_univ _)) $$ Hv; iintro Hv
  iapply (wp_load_window c _) $$ Hw; iintro Hw
  iapply (wp_store_window c _ _ (batch0 c (A c))) $$ [Hw]
  · isplitl [Hw]; · iexact Hw
    ipureintro; rfl
  iintro Hw
  iapply (wp_load Variants.none (c : Thread nD τ) none Set.univ (m := Memref.whole cc0_stg0_0) (Finset.subset_univ _)) $$ Hx; iintro Hx
  iapply (wp_load Variants.none (c : Thread nD τ) none Set.univ (m := Memref.whole cc0_stg2_0) (Finset.subset_univ _)) $$ Hk; iintro Hk
  iapply (wp_load Variants.none (c : Thread nD τ) none Set.univ (m := Memref.whole cc0_stg3_0) (Finset.subset_univ _)) $$ Hv; iintro Hv
  iapply (wp_load_window c _) $$ Hw; iintro Hw
  iapply (wp_store_window c _ _ (batch1 c (A c))) $$ [Hw]
  · isplitl [Hw]; · iexact Hw
    ipureintro; rfl
  iintro Hw
  ihave Hw := (Entails.of_eq (congrArg (window (F := F) c) (put_batches c (A c) f0))) $$ Hw
  -- round one
  ihave HO := (show iprop(∃ W, owes (c : Thread nD τ) (oweFrom 0 c) W) ⊢ (owing c (oweFrom (0 : Fin 8).val c) : sProp 𝕄) from BI.Entails.refl _) $$ [HO]
  · iexists _; iexact HO
  iapply (@wp_round F _ (product' A) K 0 1 rfl c _ _ ((product' A) c) (by decide) (by decide) (source_0 _ c) (source_1 _ c) (dev3_eq c) (dev4_eq c)
    (sndS 0) (rcvS 0) (sndS 1) (rcvS 1) rfl rfl rfl rfl (oM.slice (wide (k0_off3 c) (k0_off3_inb c)) fun _ => rfl) ((product' A) c) (oM.slice (wide (k0_off4 c) (k0_off4_inb c)) fun _ => rfl) ((product' A) c)
    (lends_wide _ 0 c _ _ _ (source_0 _ c) rfl) (lends_wide _ 1 c _ _ _ (source_1 _ c) rfl) (arrives0 _ c) (arrives1 _ c)
    ((credit_wide _ _).trans (credit_into 0).symm) ((credit_wide _ _).trans (credit_into 1).symm) (credit_lnd 0) (credit_lnd 1)) $$ [Hw Hb0 Hb1 HO Ht0 Hc0 Ht1 Hc1]
  · isplitr; · iexact HR
    isplitr; · iexact Hlev
    isplitl [Hw]; · iexact Hw
    isplitl [Hb0]; · iexact Hb0
    isplitl [Hb1]; · iexact Hb1
    isplitl [HO]; · iexact HO
    isplitl [Ht0 Hc0]; · isplitl [Ht0] <;> iassumption
    isplitl [Ht1] <;> iassumption
  iintro ⟨HO, Hw, Hl0, Hl1, Hz0, Hz1⟩
  iapply (wp_load_window c _) $$ Hw; iintro Hw
  ihave Hl0 := (Entails.of_eq (got0 _ c)) $$ Hl0
  iapply (wp_load Variants.none (c : Thread nD τ) none Set.univ (m := Memref.whole cc0_scratch0) (Finset.subset_univ _)) $$ Hl0; iintro Hl0
  iapply (wp_load_window c _) $$ Hw; iintro Hw
  iapply (wp_store_as c (product' A c) (stage1a (product' A) c) (r := (wide (k0_off5 c) (k0_off5_inb c))) _ (k0_pay117 (get (product' A c) (wide (k0_off5 c) (k0_off5_inb c))) (land0 (product' A) c))) $$ [Hw]
  · isplitl [Hw]; · iexact Hw
    ipureintro; exact ⟨congrArg (k0_pay117 _) (Memref.readAt_unit_zero (Elt F) cc0_scratch0 off3_zero _ _), (stage1a_eq _ c).symm⟩
  iintro Hw
  iapply (wp_load_window c _) $$ Hw; iintro Hw
  ihave Hl1 := (Entails.of_eq (got1 _ c)) $$ Hl1
  iapply (wp_load Variants.none (c : Thread nD τ) none Set.univ (m := Memref.whole cc0_scratch1) (Finset.subset_univ _)) $$ Hl1; iintro Hl1
  iapply (wp_load_window c _) $$ Hw; iintro Hw
  iapply (wp_store_as c (stage1a (product' A) c) (stage1 (product' A) c) (r := (wide (k0_off6 c) (k0_off6_inb c))) _ (k0_pay118 (get (stage1a (product' A) c) (wide (k0_off6 c) (k0_off6_inb c))) (land1 (product' A) c))) $$ [Hw]
  · isplitl [Hw]; · iexact Hw
    ipureintro; exact ⟨congrArg (k0_pay118 _) (Memref.readAt_unit_zero (Elt F) cc0_scratch1 off3_zero _ _), (stage1_eq _ c).symm⟩
  iintro Hw
  -- round two
  iapply (@wp_round F _ (product' A) K 2 3 rfl c _ _ (stage1 (product' A) c) (by decide) (by decide) (source_2 _ c) (source_3 _ c) (dev5_eq c) (dev6_eq c)
    (sndS 2) (rcvS 2) (sndS 3) (rcvS 3) rfl rfl rfl rfl (oM.slice (slim (k0_off7 c) (k0_off7_inb c)) fun _ => rfl) (stage1 (product' A) c) (oM.slice (slim (k0_off8 c) (k0_off8_inb c)) fun _ => rfl) (stage1 (product' A) c)
    (lends_slim _ 2 c _ _ _ (source_2 _ c) rfl) (lends_slim _ 3 c _ _ _ (source_3 _ c) rfl) (arrives2 _ c) (arrives3 _ c)
    ((credit_slim _ _).trans (credit_into 2).symm) ((credit_slim _ _).trans (credit_into 3).symm) (credit_lnd 2) (credit_lnd 3)) $$ [Hw Hb2 Hb3 HO Ht2 Hc2 Ht3 Hc3]
  · isplitr; · iexact HR
    isplitr; · iexact Hlev
    isplitl [Hw]; · iexact Hw
    isplitl [Hb2]; · iexact Hb2
    isplitl [Hb3]; · iexact Hb3
    isplitl [HO]; · iexact HO
    isplitl [Ht2 Hc2]; · isplitl [Ht2] <;> iassumption
    isplitl [Ht3] <;> iassumption
  iintro ⟨HO, Hw, Hl2, Hl3, Hz2, Hz3⟩
  iapply (wp_load_window c _) $$ Hw; iintro Hw
  ihave Hl2 := (Entails.of_eq (got2 _ c)) $$ Hl2
  iapply (wp_load Variants.none (c : Thread nD τ) none Set.univ (m := Memref.whole cc0_scratch2) (Finset.subset_univ _)) $$ Hl2; iintro Hl2
  iapply (wp_load_window c _) $$ Hw; iintro Hw
  iapply (wp_store_as c (stage1 (product' A) c) (stage2a (product' A) c) (r := (slim (k0_off9 c) (k0_off9_inb c))) _ (k0_pay119 (get (stage1 (product' A) c) (slim (k0_off9 c) (k0_off9_inb c))) (land2 (product' A) c))) $$ [Hw]
  · isplitl [Hw]; · iexact Hw
    ipureintro; exact ⟨congrArg (k0_pay119 _) (Memref.readAt_unit_zero (Elt F) cc0_scratch2 off3_zero _ _), (stage2a_eq _ c).symm⟩
  iintro Hw
  iapply (wp_load_window c _) $$ Hw; iintro Hw
  ihave Hl3 := (Entails.of_eq (got3 _ c)) $$ Hl3
  iapply (wp_load Variants.none (c : Thread nD τ) none Set.univ (m := Memref.whole cc0_scratch3) (Finset.subset_univ _)) $$ Hl3; iintro Hl3
  iapply (wp_load_window c _) $$ Hw; iintro Hw
  iapply (wp_store_as c (stage2a (product' A) c) (stage2 (product' A) c) (r := (slim (k0_off10 c) (k0_off10_inb c))) _ (k0_pay120 (get (stage2a (product' A) c) (slim (k0_off10 c) (k0_off10_inb c))) (land3 (product' A) c))) $$ [Hw]
  · isplitl [Hw]; · iexact Hw
    ipureintro; exact ⟨congrArg (k0_pay120 _) (Memref.readAt_unit_zero (Elt F) cc0_scratch3 off3_zero _ _), (stage2_eq _ c).symm⟩
  iintro Hw
  -- round three
  iapply (@wp_round F _ (product' A) K 4 5 rfl c _ _ (stage2 (product' A) c) (by decide) (by decide) (source_4 _ c) (source_5 _ c) (dev7_eq c) (dev8_eq c)
    (sndS 4) (rcvS 4) (sndS 5) (rcvS 5) rfl rfl rfl rfl (oM.slice (slim (k0_off11 c) (k0_off11_inb c)) fun _ => rfl) (stage2 (product' A) c) (oM.slice (slim (k0_off12 c) (k0_off12_inb c)) fun _ => rfl) (stage2 (product' A) c)
    (lends_slim _ 4 c _ _ _ (source_4 _ c) rfl) (lends_slim _ 5 c _ _ _ (source_5 _ c) rfl) (arrives4 _ c) (arrives5 _ c)
    ((credit_slim _ _).trans (credit_into 4).symm) ((credit_slim _ _).trans (credit_into 5).symm) (credit_lnd 4) (credit_lnd 5)) $$ [Hw Hb4 Hb5 HO Ht4 Hc4 Ht5 Hc5]
  · isplitr; · iexact HR
    isplitr; · iexact Hlev
    isplitl [Hw]; · iexact Hw
    isplitl [Hb4]; · iexact Hb4
    isplitl [Hb5]; · iexact Hb5
    isplitl [HO]; · iexact HO
    isplitl [Ht4 Hc4]; · isplitl [Ht4] <;> iassumption
    isplitl [Ht5] <;> iassumption
  iintro ⟨HO, Hw, Hl4, Hl5, Hz4, Hz5⟩
  ihave Hl4 := (Entails.of_eq (got4 _ c)) $$ Hl4
  iapply (wp_load Variants.none (c : Thread nD τ) none Set.univ (m := Memref.whole cc0_scratch4) (Finset.subset_univ _)) $$ Hl4; iintro Hl4
  iapply (wp_load_window c _) $$ Hw; iintro Hw
  iapply (wp_store_as c (stage2 (product' A) c) (put (stage2 (product' A) c) (slim (k0_off13 c) (k0_off13_inb c)) (land4 (product' A) c)) (r := (slim (k0_off13 c) (k0_off13_inb c))) _ (land4 (product' A) c)) $$ [Hw]
  · isplitl [Hw]; · iexact Hw
    ipureintro; exact ⟨(Memref.readAt_unit_zero (Elt F) cc0_scratch4 off3_zero _ _), rfl⟩
  iintro Hw
  ihave Hl5 := (Entails.of_eq (got5 _ c)) $$ Hl5
  iapply (wp_load Variants.none (c : Thread nD τ) none Set.univ (m := Memref.whole cc0_scratch5) (Finset.subset_univ _)) $$ Hl5; iintro Hl5
  iapply (wp_load_window c _) $$ Hw; iintro Hw
  iapply (wp_store_as c (put (stage2 (product' A) c) (slim (k0_off13 c) (k0_off13_inb c)) (land4 (product' A) c)) (stage3 (product' A) c) (r := (slim (k0_off14 c) (k0_off14_inb c))) _ (land5 (product' A) c)) $$ [Hw]
  · isplitl [Hw]; · iexact Hw
    ipureintro; exact ⟨(Memref.readAt_unit_zero (Elt F) cc0_scratch5 off3_zero _ _), (stage3_eq _ c).symm⟩
  iintro Hw
  -- round four
  iapply (@wp_round F _ (product' A) K 6 7 rfl c _ _ (stage3 (product' A) c) (by decide) (by decide) (source_6 _ c) (source_7 _ c) (dev9_eq c) (dev10_eq c)
    (sndS 6) (rcvS 6) (sndS 7) (rcvS 7) rfl rfl rfl rfl (oM.slice (wide (k0_off15 c) (k0_off15_inb c)) fun _ => rfl) (stage3 (product' A) c) (oM.slice (wide (k0_off16 c) (k0_off16_inb c)) fun _ => rfl) (stage3 (product' A) c)
    (lends_wide _ 6 c _ _ _ (source_6 _ c) rfl) (lends_wide _ 7 c _ _ _ (source_7 _ c) rfl) (arrives6 _ c) (arrives7 _ c)
    ((credit_wide _ _).trans (credit_into 6).symm) ((credit_wide _ _).trans (credit_into 7).symm) (credit_lnd 6) (credit_lnd 7)) $$ [Hw Hb6 Hb7 HO Ht6 Hc6 Ht7 Hc7]
  · isplitr; · iexact HR
    isplitr; · iexact Hlev
    isplitl [Hw]; · iexact Hw
    isplitl [Hb6]; · iexact Hb6
    isplitl [Hb7]; · iexact Hb7
    isplitl [HO]; · iexact HO
    isplitl [Ht6 Hc6]; · isplitl [Ht6] <;> iassumption
    isplitl [Ht7] <;> iassumption
  iintro ⟨HO, Hw, Hl6, Hl7, Hz6, Hz7⟩
  ihave Hl6 := (Entails.of_eq (got6 _ c)) $$ Hl6
  iapply (wp_load Variants.none (c : Thread nD τ) none Set.univ (m := Memref.whole cc0_scratch6) (Finset.subset_univ _)) $$ Hl6; iintro Hl6
  iapply (wp_load_window c _) $$ Hw; iintro Hw
  iapply (wp_store_as c (stage3 (product' A) c) (put (stage3 (product' A) c) (wide (k0_off17 c) (k0_off17_inb c)) (land6 (product' A) c)) (r := (wide (k0_off17 c) (k0_off17_inb c))) _ (land6 (product' A) c)) $$ [Hw]
  · isplitl [Hw]; · iexact Hw
    ipureintro; exact ⟨(Memref.readAt_unit_zero (Elt F) cc0_scratch6 off3_zero _ _), rfl⟩
  iintro Hw
  ihave Hl7 := (Entails.of_eq (got7 _ c)) $$ Hl7
  iapply (wp_load Variants.none (c : Thread nD τ) none Set.univ (m := Memref.whole cc0_scratch7) (Finset.subset_univ _)) $$ Hl7; iintro Hl7
  iapply (wp_load_window c _) $$ Hw; iintro Hw
  iapply (wp_store_as c (put (stage3 (product' A) c) (wide (k0_off17 c) (k0_off17_inb c)) (land6 (product' A) c)) (stage4 (product' A) c) (r := (wide (k0_off18 c) (k0_off18_inb c))) _ (land7 (product' A) c)) $$ [Hw]
  · isplitl [Hw]; · iexact Hw
    ipureintro; exact ⟨(Memref.readAt_unit_zero (Elt F) cc0_scratch7 off3_zero _ _), (stage4_eq _ c).symm⟩
  iintro Hw
  rw [wp_ret]; imodintro
  iapply Hend
  isplitl [Hl0 Hl1 Hl2 Hl3 Hl4 Hl5 Hl6 Hl7 Hz0 Hz1 Hz2 Hz3 Hz4 Hz5 Hz6 Hz7 HzB]
  · isplitl [Hl0 Hl1 Hl2 Hl3 Hl4 Hl5 Hl6 Hl7]
    · unfold landings anyBuf; rw [each_exchange]
      isplitl [Hl0]; · iexists _; iapply (Entails.of_eq (got0 _ c).symm); iexact Hl0
      isplitl [Hl1]; · iexists _; iapply (Entails.of_eq (got1 _ c).symm); iexact Hl1
      isplitl [Hl2]; · iexists _; iapply (Entails.of_eq (got2 _ c).symm); iexact Hl2
      isplitl [Hl3]; · iexists _; iapply (Entails.of_eq (got3 _ c).symm); iexact Hl3
      isplitl [Hl4]; · iexists _; iapply (Entails.of_eq (got4 _ c).symm); iexact Hl4
      isplitl [Hl5]; · iexists _; iapply (Entails.of_eq (got5 _ c).symm); iexact Hl5
      isplitl [Hl6]; · iexists _; iapply (Entails.of_eq (got6 _ c).symm); iexact Hl6
      iexists _; iapply (Entails.of_eq (got7 _ c).symm); iexact Hl7
    isplitr [HzB]
    · isplitl [Hz0]; · iexact Hz0
      isplitl [Hz1]; · iexact Hz1
      isplitl [Hz2]; · iexact Hz2
      isplitl [Hz3]; · iexact Hz3
      isplitl [Hz4]; · iexact Hz4
      isplitl [Hz5]; · iexact Hz5
      isplitl [Hz6]; · iexact Hz6
      iexact Hz7
    iexact HzB
  isplitl [HO]; · rw [← oweFrom_eight c]; iexact HO
  isplitl [Hx Hwq Hk Hv Hwo]
  · isplitl [Hx]; · iexact Hx
    isplitl [Hwq]; · iexact Hwq
    isplitl [Hk]; · iexact Hk
    isplitl [Hv] <;> iassumption
  iexact Hw

end Cert.KernelIdeal.Exchange

end
-- ==== Proof.Deal.lean ====
/-
# Dealing the tokens and credits

At launch the tokens of every cell are minted with the cell.  They are dealt to the devices that use them: a barrier's
two tokens to the two partners, a receive semaphore's token to the device that writes there, a send semaphore's to its
owner.  The credits a device starts from are what the others owe it.
-/
module

public import proofs.«01_k».proof.Proof.Body

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

/-! ## The cells and the tokens minted -/

theorem cellSem_inj : ∀ k l : Cell, cellSem k = cellSem l → k = l := by decide

theorem cell_inj : Function.Injective (cell : Dev nD × Cell → GSem nD τ sig) := by
  rintro ⟨c, k⟩ ⟨d, l⟩ h
  have hc : c = d := congrArg (fun g : GSem nD τ sig => g.1.1) h
  have hk : k = l := cellSem_inj k l (congrArg Prod.snd h)
  rw [hc, hk]

/-- All the cells. -/
def allCells : Finset (GSem nD τ sig) := Finset.univ.map ⟨cell, cell_inj⟩

/-- Names for the tokens of a device's cells: the token `false` of each, and the barrier's token `true`. -/
abbrev minted (ct : Dev nD × (Cell ⊕ Unit)) : GSem nD τ sig × ℕ × Bool :=
  (cell (ct.1, Sum.elim id (fun _ => none) ct.2), 0, Sum.isRight ct.2)

theorem minted_inj : Function.Injective minted := by
  rintro ⟨c, s⟩ ⟨d, t⟩ h
  have hk := cell_inj (congrArg Prod.fst h)
  have hc : c = d := congrArg Prod.fst hk
  have hs : Sum.elim id (fun _ => none) s = Sum.elim id (fun _ => none) t := congrArg Prod.snd hk
  have hb : Sum.isRight s = Sum.isRight t := congrArg (fun x : GSem nD τ sig × ℕ × Bool => x.2.2) h
  rcases s with s | s <;> rcases t with t | t
  · rw [hc, show s = t from hs]
  · exact Bool.noConfusion hb
  · exact Bool.noConfusion hb
  · rw [hc]

/-- All the tokens. -/
def allToks : Finset (GSem nD τ sig × ℕ × Bool) := Finset.univ.map ⟨minted, minted_inj⟩

/-- A family over the cells of a device: the barrier, the send semaphores and the receive semaphores. -/
theorem each_cell (Φ : Cell → sProp 𝕄) :
    bigSep Finset.univ Φ = iprop(Φ none ∗ (bigSep Finset.univ fun i => Φ (some (false, i))) ∗ bigSep Finset.univ fun i => Φ (some (true, i))) := by
  rw [bigSep_univ_at Φ none, show (Finset.univ : Finset Cell).erase none = Finset.univ.map Function.Embedding.some from by decide,
    bigSep_map, bigSep_univ_prod, bigSep_univ_eq_bigSepL [false, true] (by decide) (by decide), bigSepL_cons_cons, bigSepL_singleton]
  rfl

/-- The tokens of device `c`'s own cells. -/
def ownToks (c : Dev nD) : sProp 𝕄 :=
  iprop((dutyTok EX (barC c) 0 false ∗ (bigSep Finset.univ fun i => dutyTok EX (sndC i c) 0 false)
    ∗ bigSep Finset.univ fun i => dutyTok EX (rcvC i c) 0 false) ∗ dutyTok EX (barC c) 0 true)

/-- The tokens device `c` pays with. -/
def payToks (c : Dev nD) : sProp 𝕄 :=
  iprop((dutyTok EX (barC (p1 c)) 0 false ∗ (bigSep Finset.univ fun i => dutyTok EX (sndC i c) 0 false)
    ∗ bigSep Finset.univ fun i => dutyTok EX (rcvC i (par i c)) 0 false) ∗ dutyTok EX (barC (p2 c)) 0 true)

theorem ownToks_eq (c : Dev nD) :
    (bigSep Finset.univ fun s : Cell ⊕ Unit => (dutyTok EX (minted (c, s)).1 (minted (c, s)).2.1 (minted (c, s)).2.2 : sProp 𝕄)) = ownToks c := by
  rw [bigSep_univ_sum, each_cell, bigSep_univ_eq_bigSepL [()] (by decide) (by decide), bigSepL_singleton]
  rfl

/-- The two partners, as bijections of the devices. -/
def swap1 : Dev nD ≃ Dev nD := ⟨p1, p1, p1_p1, p1_p1⟩
def swap2 : Dev nD ≃ Dev nD := ⟨p2, p2, p2_p2, p2_p2⟩

omit [FloatOps F] in
/-- A family over devices and exchanges can be read exchange by exchange. -/
theorem by_exchange (Φ : Dev nD → Fin 8 → sProp 𝕄) :
    (bigSep Finset.univ fun c : Dev nD => bigSep Finset.univ fun i : Fin 8 => Φ c i)
      = bigSep Finset.univ fun i : Fin 8 => bigSep Finset.univ fun c : Dev nD => Φ c i := by
  rw [← bigSep_univ_prod (fun ci : Dev nD × Fin 8 => Φ ci.1 ci.2), bigSep_univ_equiv (Equiv.prodComm (Fin 8) (Dev nD)), bigSep_univ_prod]
  rfl

omit [FloatOps F] in
/-- Exchange by exchange, the receive tokens reach the devices that write there. -/
theorem rcv_around : (bigSep Finset.univ fun c : Dev nD => bigSep Finset.univ fun i : Fin 8 => (dutyTok EX (rcvC i c) 0 false : sProp 𝕄))
    = bigSep Finset.univ fun c : Dev nD => bigSep Finset.univ fun i : Fin 8 => dutyTok EX (rcvC i (par i c)) 0 false := by
  rw [by_exchange, by_exchange]
  exact bigSep_congr fun i _ => bigSep_univ_equiv (swap i) _

omit [FloatOps F] in
/-- All the tokens, dealt to the devices that pay with them. -/
theorem toks_around : (bigSep Finset.univ fun c : Dev nD => (ownToks c : sProp 𝕄)) = bigSep Finset.univ fun c : Dev nD => payToks c := by
  unfold ownToks payToks
  rw [bigSep_sep', bigSep_sep', bigSep_sep', bigSep_sep', bigSep_sep', bigSep_sep', rcv_around,
    bigSep_univ_equiv swap1 (fun c : Dev nD => (dutyTok EX (barC c) 0 false : sProp 𝕄)),
    bigSep_univ_equiv swap2 (fun c : Dev nD => (dutyTok EX (barC c) 0 true : sProp 𝕄))]
  rfl

/-! ## The semaphores -/

/-- The kernel's own semaphores: the send and then the receive semaphores. -/
def osem (k : Fin 16) : SemLoc sig := .dma ⟨6 + k.val, by have := k.isLt; show 6 + k.val < 22; omega⟩

theorem ownSemFacts : Pipeline.OwnSemFacts cfg0.spec osem := by decide

omit [FloatOps F] in
theorem ownSems_eq (c : Dev nD) : (Pipeline.ownSems0 (Ix := Unit) (Name := ℕ) (U := UA) (Lvl := ℕ) (Val := Elt F) (τ := τ) osem c : sProp 𝕄)
    = iprop((bigSep Finset.univ fun i => semVal (sndC i c) 0) ∗ bigSep Finset.univ fun i => semVal (rcvC i c) 0) := by
  unfold Pipeline.ownSems0
  rw [bigSep_univ_equiv (finSumFinEquiv (m := 8) (n := 8)), bigSep_univ_sum]
  have h (i : Fin 8) : osem (finSumFinEquiv (m := 8) (n := 8) (Sum.inr i)) = .dma (rcvS i) := by revert i; decide
  exact congrArg (fun X : sProp 𝕄 => iprop((bigSep Finset.univ fun i : Fin 8 => (semVal (sndC i c) 0 : sProp 𝕄)) ∗ X))
    (bigSep_congr fun i _ => by rw [h i])

omit [FloatOps F] in
/-- The barrier is the only semaphore that outlives the kernel. -/
theorem unscopedSems_eq (c : Dev nD) : (unscopedSems0 c : sProp 𝕄) = semVal (barC c) 0 := by
  unfold unscopedSems0; rw [bigSep_eq_bigSepL_of_eq [SemLoc.reg barS] (by decide) (by decide)]; rfl

/-! ## Funding -/

variable (A : Dev nD → Args F)

/-- What the launch deals device `c` for its own cells. -/
def mint (c : Dev nD) : sProp 𝕄 :=
  iprop((bigSep Finset.univ fun k : Cell => roundState EX (Rd (product' A)) (cell (c, k)) 0)
    ∗ (bigSep Finset.univ fun k : Cell => reached EX (cell (c, k)) 0)
    ∗ (bigSep Finset.univ fun k : Cell => atPos EX (cell (c, k)) 0 ∅ 0) ∗ ownToks c)

theorem over_cells (Φ : GSem nD τ sig → sProp 𝕄) :
    bigSep allCells Φ = bigSep Finset.univ fun c : Dev nD => bigSep Finset.univ fun k : Cell => Φ (cell (c, k)) := by
  unfold allCells; rw [bigSep_map, bigSep_univ_prod]; rfl

/-- The initial ghost state is what the devices are dealt. -/
theorem fund_cells : BI.own (EX (initOf allCells allToks)) ⊢ (|==> bigSep Finset.univ (mint A) : sProp 𝕄) := by
  have hT : bigSep allToks (fun x => (dutyTok EX x.1 x.2.1 x.2.2 : sProp 𝕄)) = bigSep Finset.univ fun c : Dev nD => ownToks c := by
    unfold allToks; rw [bigSep_map, bigSep_univ_prod]
    exact bigSep_congr fun c _ => ownToks_eq c
  iintro HX
  imod (Rounds.fund EX (Rd (product' A)) allCells allToks) $$ HX with H
  imodintro
  unfold mint
  rw [hT, over_cells, over_cells, over_cells, bigSep_sep', bigSep_sep', bigSep_sep']
  iexact H

/-- Each device's cells begin their rounds. -/
theorem open_cells (c : Dev nD) :
    iprop(Pipeline.ownSems0 (Ix := Unit) (Name := ℕ) (U := UA) (Lvl := ℕ) (Val := Elt F) (τ := τ) osem c ∗ unscopedSems0 c ∗ mint A c)
      ⊢ |={Set.univ}=> iprop((bigSep Finset.univ fun k : Cell => iprop(∃ κ : ℕ, cellInv EX (Rd (product' A)) κ (cell (c, k))))
          ∗ (bigSep Finset.univ fun k : Cell => reached EX (cell (c, k)) 0)
          ∗ (bigSep Finset.univ fun k : Cell => atPos EX (cell (c, k)) 0 ∅ 0) ∗ ownToks c) := by
  unfold mint
  have hv : iprop(Pipeline.ownSems0 (Ix := Unit) (Name := ℕ) (U := UA) (Lvl := ℕ) (Val := Elt F) (τ := τ) osem c ∗ unscopedSems0 c)
      ⊢ (bigSep Finset.univ fun k : Cell => semVal (cell (c, k)) 0 : sProp 𝕄) := by
    rw [ownSems_eq, unscopedSems_eq, each_cell]
    iintro ⟨⟨H1, H2⟩, H3⟩
    isplitl [H3]; · iexact H3
    isplitl [H1]; · iexact H1
    iexact H2
  iintro ⟨Ho, Hu, Hst, Hrest⟩
  ihave Hv := hv $$ [Ho Hu]
  · isplitl [Ho]; · iexact Ho
    iexact Hu
  imod (show iprop((bigSep Finset.univ fun k : Cell => semVal (cell (c, k)) 0)
        ∗ bigSep Finset.univ fun k : Cell => roundState EX (Rd (product' A)) (cell (c, k)) 0)
      ⊢ (|={Set.univ}=> bigSep Finset.univ fun k : Cell => iprop(∃ κ : ℕ, cellInv EX (Rd (product' A)) κ (cell (c, k))) : sProp 𝕄) from by
        rw [← bigSep_sep']
        exact (bigSep_mono fun k _ => (Rounds.body_intro EX (Rd (product' A)) (cell (c, k))).trans inv_alloc).trans (bigSep_fupd _ _))
    $$ [Hv Hst] with Hinv
  · isplitl [Hv]; · iexact Hv
    iexact Hst
  imodintro
  isplitl [Hinv]; · iexact Hinv
  iexact Hrest

/-- A device's own share of what is dealt: its places in the rounds and the tokens it pays with. -/
def share (c : Dev nD) : sProp 𝕄 := iprop((bigSep Finset.univ fun k : Cell => atPos EX (cell (c, k)) 0 ∅ 0) ∗ payToks c)

theorem ghost_of_share (K : Dev nD × Cell → ℕ) (c : Dev nD) : iprop(records (product' A) K ∗ share c) ⊢ ghost A K c := by
  unfold share payToks ghost tok
  rw [each_cell, bigSep_sep', bigSep_sep', bigSep_sep']
  iintro ⟨HR, ⟨Hb, Hs, Hr⟩, ⟨Tb, Ts, Tr⟩, Tb'⟩
  isplitl [HR]; · iexact HR
  isplitl [Hb]; · iexact Hb
  isplitl [Tb]; · iexact Tb
  isplitl [Tb']; · iexact Tb'
  isplitl [Hs]; · iexact Hs
  isplitl [Hr]; · iexact Hr
  isplitl [Ts]; · iexact Ts
  iexact Tr

/-- A persistent fact is there for every member of a family. -/
theorem for_all {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans ((Entails.of_eq (bigSep_sep' S _ _).symm).trans (bigSep_mono fun i _ => h i))

/-- Once all cells have begun their rounds, every device gets its ghost state. -/
theorem gather : (bigSep Finset.univ fun c : Dev nD => iprop((bigSep Finset.univ fun k : Cell => iprop(∃ κ : ℕ, cellInv EX (Rd (product' A)) κ (cell (c, k))))
          ∗ (bigSep Finset.univ fun k : Cell => reached EX (cell (c, k)) 0)
          ∗ (bigSep Finset.univ fun k : Cell => atPos EX (cell (c, k)) 0 ∅ 0) ∗ ownToks c) : sProp 𝕄)
    ⊢ bigSep Finset.univ fun c => iprop(∃ K, ghost A K c) := by
  rw [bigSep_sep', bigSep_sep', bigSep_sep', toks_around,
    ← bigSep_univ_prod (fun ck : Dev nD × Cell => iprop(∃ κ : ℕ, cellInv EX (Rd (product' A)) κ (cell ck))),
    ← bigSep_univ_prod (fun ck : Dev nD × Cell => (reached EX (cell ck) 0 : sProp 𝕄)), ← bigSep_sep']
  iintro ⟨HI, #HR, Hs⟩
  ihave HK := (BI.bigSep_exists_pi Finset.univ (fun (ck : Dev nD × Cell) (κ : ℕ) => (cellInv EX (Rd (product' A)) κ (cell ck) : sProp 𝕄))) $$ HI
  icases HK with ⟨%K, #HI⟩
  iapply (for_all (R := records (product' A) K) (Φ := share) (Ψ := fun c => iprop(∃ K, ghost A K c)) fun c => by
    iintro H
    iexists K
    iapply (ghost_of_share A K c)
    iexact H)
  isplitr
  · unfold records; isplitr; · iexact HI
    iexact HR
  · iexact Hs

/-- From the semaphores of all devices and what they are dealt, every device gets its ghost state. -/
theorem deal : (bigSep Finset.univ fun c => iprop(Pipeline.ownSems0 (Ix := Unit) (Name := ℕ) (U := UA) (Lvl := ℕ) (Val := Elt F) (τ := τ) osem c
      ∗ unscopedSems0 c ∗ mint A c) : sProp 𝕄)
    ⊢ |={Set.univ}=> bigSep Finset.univ fun c => iprop(∃ K, ghost A K c) :=
  ((bigSep_mono fun c _ => open_cells A c).trans (bigSep_fupd _ _)).trans (BI.fupd_mono (gather A))

/-! ## The credits at launch -/

theorem bar_iff {a b : Dev nD} : barC a = barC b ↔ a = b :=
  ⟨fun h => congrArg (fun g : GSem nD τ sig => g.1.1) h, fun h => h ▸ rfl⟩

theorem rcv_iff {i j : Fin 8} {a b : Dev nD} : rcvC i a = rcvC j b ↔ i = j ∧ a = b := by
  refine ⟨fun h => ?_, fun h => by rw [h.1, h.2]⟩
  have := cell_inj (a₁ := (a, some (true, i))) (a₂ := (b, some (true, j))) h
  simpa [and_comm] using this

theorem rcv_ne_bar {i : Fin 8} {a b : Dev nD} : rcvC i a ≠ barC b := fun h => dma_ne_bar _ (congrArg Prod.snd h)

/-- What device `d` owes the barrier of device `c`. -/
theorem owed_bar (d c : Dev nD) : owe₀ d (barC c) () = (if d = p2 c then 1 else 0) + (if d = p1 c then 1 else 0) := by
  have h0 : oweFrom 0 d (barC c) () = 0 := by
    by_contra h
    obtain ⟨i, _, hi⟩ := oweFrom_pos (Nat.pos_of_ne_zero h)
    exact rcv_ne_bar hi.symm
  unfold owe₀
  rw [Pi.add_apply, Finsupp.add_apply, Pi.add_apply, Finsupp.add_apply, h0, tallyAt_apply, tallyAt_apply, Nat.zero_add]
  have e2 : (barC c = barC (p2 d) ∧ () = ()) ↔ d = p2 c := by
    rw [bar_iff]; exact ⟨fun h => by rw [h.1, p2_p2], fun h => ⟨by rw [h, p2_p2], rfl⟩⟩
  have e1 : (barC c = barC (p1 d) ∧ () = ()) ↔ d = p1 c := by
    rw [bar_iff]; exact ⟨fun h => by rw [h.1, p1_p1], fun h => ⟨by rw [h, p1_p1], rfl⟩⟩
  rw [if_congr e2 rfl rfl, if_congr e1 rfl rfl]

/-- What device `d` owes receive semaphore `i` of device `c`. -/
theorem owed_rcv (i : Fin 8) (d c : Dev nD) : owe₀ d (rcvC i c) () = if d = par i c then units i else 0 := by
  unfold owe₀ oweFrom
  rw [Pi.add_apply, Finsupp.add_apply, Pi.add_apply, Finsupp.add_apply, tallyAt_ne_cell rcv_ne_bar,
    tallyAt_ne_cell rcv_ne_bar, Finsupp.zero_apply, Nat.add_zero, Nat.add_zero, Finset.sum_apply,
    Finsupp.finset_sum_apply, Finset.sum_eq_single (i : Fin 8)]
  · rw [tallyAt_apply]
    refine if_congr ?_ rfl rfl
    rw [rcv_iff]
    exact ⟨fun h => by rw [h.1.2, par_par], fun h => ⟨⟨rfl, by rw [h, par_par]⟩, rfl⟩⟩
  · intro j _ hj
    rw [tallyAt_apply, if_neg fun h => hj (rcv_iff.mp h.1).1.symm]
  · intro h
    exact absurd (Finset.mem_filter.mpr ⟨Finset.mem_univ i, Nat.zero_le _⟩) h

theorem launch_bar (c : Dev nD) :
    tallyOn (barC c) (launchCredit (Pipeline.owing owe₀) 0 (barC c)) = (tallyAt (barC c) () 2 : CellTallies nD τ sig Unit) := by
  unfold tallyAt
  refine congrArg _ (Finsupp.ext fun u => ?_)
  cases u
  rw [Pipeline.launchCredit_owing, Finsupp.single_eq_same, Finset.sum_congr rfl fun d _ => owed_bar d c]
  revert c; decide

theorem launch_rcv (i : Fin 8) (c : Dev nD) :
    tallyOn (rcvC i c) (launchCredit (Pipeline.owing owe₀) 0 (rcvC i c)) = (tallyAt (rcvC i c) () (units i) : CellTallies nD τ sig Unit) := by
  unfold tallyAt
  refine congrArg _ (Finsupp.ext fun u => ?_)
  cases u
  rw [Pipeline.launchCredit_owing, Finsupp.single_eq_same, Finset.sum_congr rfl fun d _ => owed_rcv i d c,
    Finset.sum_ite_eq' Finset.univ (par i c) fun _ => units i, if_pos (Finset.mem_univ _)]

theorem rcvLoc_inj : Function.Injective fun i : Fin 8 => (SemLoc.dma (rcvS i) : SemLoc sig) := by decide

/-- The credits of device `c`. -/
theorem launch_credits (c : Dev nD) :
    (Pipeline.launchCred owe₀ c : sProp 𝕄) ⊢ iprop(cred (tallyAt (barC c) () 2) ∗ bigSep Finset.univ fun i : Fin 8 => tick i c) := by
  unfold Pipeline.launchCred
  rw [bigSep_univ_at _ (SemLoc.reg barS), launch_bar]
  refine sep_mono_right ?_
  refine (bigSep_subset (t := Finset.univ.map ⟨fun i : Fin 8 => (SemLoc.dma (rcvS i) : SemLoc sig), rcvLoc_inj⟩) ?_).trans ?_
  · intro s hs
    obtain ⟨i, _, rfl⟩ := Finset.mem_map.mp hs
    exact Finset.mem_erase.mpr ⟨dma_ne_bar _, Finset.mem_univ _⟩
  · rw [bigSep_map]
    refine bigSep_mono fun i _ => ?_
    unfold tick
    rw [← launch_rcv]
    exact BI.Entails.refl _

end Cert.KernelIdeal.Exchange

end
-- ==== Proof.Run.lean ====
/-
# The run

Every device stages its arguments, runs the body and writes its window back.  The run ends from any memory with all
semaphores at zero, each argument as it was, and the result at the exchanged products of the staged arguments.
-/
module

public import proofs.«01_k».proof.Proof.Deal
public import proofs.«01_k».proof.Proof.Gen.KernelIdeal.Points
public import Idealize.ShloMosaic.Lib.Pipeline.ValueKit
public import Idealize.ShloMosaic.Lib.Pipeline.CollectiveSegs

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UA ℕ

variable (m : (ℓ : Loc nD τ sig) → Buf (Elt F) ℓ) (ρ : Dev nD → PrngReg)

/-- What device `c` stages. -/
def staged (c : Dev nD) : Args F where
  x := (win0_0.blk t0_0).view.read (Elt F) (m ((c : Thread nD τ).loc main_arg0))
  wq := (win0_1.blk t0_0).view.read (Elt F) (m ((c : Thread nD τ).loc main_arg1))
  k := (win0_2.blk t0_0).view.read (Elt F) (m ((c : Thread nD τ).loc main_arg2))
  v := (win0_3.blk t0_0).view.read (Elt F) (m ((c : Thread nD τ).loc main_arg3))
  wo := (win0_4.blk t0_0).view.read (Elt F) (m ((c : Thread nD τ).loc main_arg4))

/-- What device `c` writes back. -/
def result (c : Dev nD) : Win F := stage4 (product' (staged m)) c

/-- What a device has when its body starts and when it ends. -/
def before (c : Dev nD) : sProp 𝕄 := iprop(((∃ K, ghost (staged m) K c) ∗ credits c) ∗ landings c)

/-- The staging of device `c`: five arguments in, one window out. -/
def dats (_ : Fin 1) (c : Dev nD) : Dat τ (Elt F) Unit ℕ UA ℕ cfg0 c where
  A w := m ((cfg0.win w).arr.view.loc (c : Thread nD τ))
  after w _ := match w with
    | ⟨0, _⟩ => (staged m c).x
    | ⟨1, _⟩ => (staged m c).wq
    | ⟨2, _⟩ => (staged m c).k
    | ⟨3, _⟩ => (staged m c).v
    | ⟨4, _⟩ => (staged m c).wo
    | ⟨5, _⟩ => result m c
  Φ t := match t with
    | ⟨0, _⟩ => before m c
    | ⟨_ + 1, _⟩ => rest c
  q _ := fullShare
  owed t := match t with
    | ⟨0, _⟩ => owe₀ c
    | ⟨_ + 1, _⟩ => 0

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UA) (Lvl := ℕ) (c : Thread nD τ) (Memref.whole b) fullShare X : sProp 𝕄) = stg c b X := by
  unfold owns; simp only [Memref.view_whole, View.read_whole, View.set_whole]

/-- What the staging gives the body, and what it takes back. -/
def bodyPre (c : Dev nD) : sProp 𝕄 :=
  iprop(before m c ∗ (dats m 0 c).owesAt () t0_0.castSucc
    ∗ (∃ d, stg c cc0_stg0_0 ((dats m 0 c).before (0 : Fin 6) t0_0 d)) ∗ (∃ d, stg c cc0_stg1_0 ((dats m 0 c).before (1 : Fin 6) t0_0 d))
    ∗ (∃ d, stg c cc0_stg2_0 ((dats m 0 c).before (2 : Fin 6) t0_0 d)) ∗ (∃ d, stg c cc0_stg3_0 ((dats m 0 c).before (3 : Fin 6) t0_0 d))
    ∗ (∃ d, stg c cc0_stg4_0 ((dats m 0 c).before (4 : Fin 6) t0_0 d)) ∗ (∃ d, stg c cc0_stg5_0 ((dats m 0 c).before (5 : Fin 6) t0_0 d)))

def bodyPost (c : Dev nD) : sProp 𝕄 :=
  iprop(rest c ∗ (dats m 0 c).owesAt () t0_0.succ
    ∗ stg c cc0_stg0_0 (staged m c).x ∗ stg c cc0_stg1_0 (staged m c).wq ∗ stg c cc0_stg2_0 (staged m c).k
    ∗ stg c cc0_stg3_0 (staged m c).v ∗ stg c cc0_stg4_0 (staged m c).wo ∗ stg c cc0_stg5_0 (result m c))

theorem staged_before (c : Dev nD) (d0 d1 d2 d3 d4) :
    (dats m 0 c).before (0 : Fin 6) t0_0 d0 = (staged m c).x ∧ (dats m 0 c).before (1 : Fin 6) t0_0 d1 = (staged m c).wq
    ∧ (dats m 0 c).before (2 : Fin 6) t0_0 d2 = (staged m c).k ∧ (dats m 0 c).before (3 : Fin 6) t0_0 d3 = (staged m c).v
    ∧ (dats m 0 c).before (4 : Fin 6) t0_0 d4 = (staged m c).wo :=
  ⟨if_pos (fetch0_0 t0_0), if_pos (fetch0_1 t0_0), if_pos (fetch0_2 t0_0), if_pos (fetch0_3 t0_0), if_pos (fetch0_4 t0_0)⟩

set_option maxRecDepth 4000 in
/-- The body meets the staging's demand. -/
theorem body_obligation (c : Dev nD) : BodyObligation (dats (F := F) m 0 c) (defs₀ (F := F)) Variants.none () Set.univ := fun t => by
  rw [show t = t0_0 from fin_N0 t, bigSep_W0, bigSep_W0]
  simp only [owns_stg]
  show bodyPre m c ⊢ wp frame (wpE (defs₀ (F := F)) Variants.none (c : Thread nD τ) none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) (Memref.whole cc0_scratch7) (Memref.isWhole_whole _)
      cc0_scratch8 cc0_scratch9) (fun _ => bodyPost m c)
  unfold bodyPre before Dat.owesAt Pipeline.owesWithin
  iintro ⟨⟨⟨⟨%K, Hg⟩, Hcr⟩, Hland⟩, ⟨%W, -, HO⟩, ⟨%d0, %f0, %h0, H0⟩, ⟨%d1, %f1, %h1, H1⟩, ⟨%d2, %f2, %h2, H2⟩, ⟨%d3, %f3, %h3, H3⟩,
    ⟨%d4, %f4, %h4, H4⟩, ⟨%d5, %f5, -, H5⟩⟩
  obtain ⟨e0, e1, e2, e3, e4⟩ := staged_before m c d0 d1 d2 d3 d4
  rw [e0] at h0; rw [e1] at h1; rw [e2] at h2; rw [e3] at h3; rw [e4] at h4
  subst h0 h1 h2 h3 h4
  iapply (sound_body (staged m) K c f5 fun _ => bodyPost m c)
  isplitr []
  · isplitl [Hg]; · iexact Hg
    isplitl [Hcr]; · iexact Hcr
    isplitl [Hland]; · iexact Hland
    isplitl [HO]
    · unfold owing; iexists W; iexact HO
    isplitl [H0 H1 H2 H3 H4]
    · unfold inputs
      isplitl [H0]; · iexact H0
      isplitl [H1]; · iexact H1
      isplitl [H2]; · iexact H2
      isplitl [H3]; · iexact H3
      iexact H4
    · unfold window; iexact H5
  · unfold bodyPost inputs window owing Dat.owesAt Pipeline.owesWithin
    iintro ⟨Hr, ⟨%W', HO⟩, ⟨H0, H1, H2, H3, H4⟩, H5⟩
    isplitl [Hr]; · iexact Hr
    isplitl [HO]
    · iexists W'
      isplitr; · (ipureintro; exact fun _ _ => Or.inl trivial)
      iexact HO
    isplitl [H0]; · (iexists _; isplitr; · (ipureintro; rfl)); iexact H0
    isplitl [H1]; · (iexists _; isplitr; · (ipureintro; rfl)); iexact H1
    isplitl [H2]; · (iexists _; isplitr; · (ipureintro; rfl)); iexact H2
    isplitl [H3]; · (iexists _; isplitr; · (ipureintro; rfl)); iexact H3
    isplitl [H4]; · (iexists _; isplitr; · (ipureintro; rfl)); iexact H4
    iexists _; isplitr; · (ipureintro; rfl)
    iexact H5

/-! ## The launch -/

theorem share_eq (c : Dev nD) (w : Fin cfg0.W) : (dats m 0 c).share w = fullShare := by unfold Dat.share; split <;> rfl

/-- The ghost state the launch starts with. -/
def u₀ : UA := (initOf (Pipeline.cells cfgs cellOf_inj) (Pipeline.launchToks cfgs cellOf_inj), initOf allCells allToks)

theorem start_intro (c : Dev nD) :
    iprop(Pipeline.unscopedRestP Pipeline.Prefetch.none cfg0.spec c (fun b => m ((c : Thread nD τ).loc b)) ∗ levAts L lv
        ∗ Pipeline.launchCred owe₀ c ∗ prngReg c (ρ c) ∗ (∃ K, ghost (staged m) K c))
      ⊢ |={Set.univ}=> iprop(((∃ K, ghost (staged m) K c) ∗ credits c) ∗ emp) := by
  iintro ⟨-, Hlev, Hcr, -, HG⟩
  ihave Hc := (launch_credits (F := F) c) $$ Hcr
  icases Hc with ⟨H1, H2⟩
  imodintro
  unfold credits
  isplitl
  · isplitl [HG]; · iexact HG
    isplitl [H1]; · iexact H1
    isplitl [H2]; · iexact H2
    iexact Hlev
  · iempintro

/-- The landing buffers are the scoped buffers that stage nothing. -/
theorem landings_eq (c : Dev nD) : (Pipeline.scopedRest cfg0.spec c : sProp 𝕄) = landings c := by
  unfold landings
  rw [scopedRest0_eq, each_exchange]
  rfl

theorem enter (c : Dev nD) :
    iprop(((∃ K, ghost (staged m) K c) ∗ credits c) ∗ Pipeline.prefHeld Pipeline.Prefetch.none c (fun _ => fullShare.right) (fun k => k.elim0)
        ∗ Pipeline.scopedRest cfg0.spec c)
      ⊢ (dats m 0 c).Φ 0 := by
  rw [show (dats m 0 c).Φ 0 = before m c from rfl, landings_eq]
  unfold before
  iintro ⟨Hs, -, Hr⟩
  isplitl [Hs]; · iexact Hs
  iexact Hr

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = rest c from rfl, landings_eq, ownSems_eq, unscopedSems_eq]
  unfold rest closed
  rw [bigSep_sep']
  iintro ⟨Hr, ⟨Hs, Hv⟩, Hb⟩
  isplitl [Hb]; · iexact Hb
  isplitl [Hs Hv]
  · isplitl [Hs]; · iexact Hs
    iexact Hv
  iexact Hr

/-- A staging semaphore is waited on below everything the exchanges owe. -/
theorem wait_stage (c : Dev nD) (q : DmaSem sig) (hq : xfer (.dma q) = none) (O : CellTallies nD τ sig Unit) (hO : O = owe₀ c ∨ O = 0) :
    (levAts L lv : sProp 𝕄) ⊢ MayWait (c : Thread nD τ) (.dma q) () O := by
  refine mayWait c (.dma q) 0 O ?_ fun g u hg => ?_
  · unfold lv; rw [if_neg (dma_ne_bar q), hq]; exact Nat.le_refl 0
  · rcases hO with rfl | rfl
    · rcases owe₀_pos hg with ⟨d, rfl⟩ | ⟨i, d, rfl⟩
      · exact ⟨rfl, by rw [lv_bar]; omega⟩
      · exact ⟨rfl, by rw [lv_rcv]; omega⟩
    · exact absurd hg (Nat.lt_irrefl 0)

theorem waits (c : Dev nD) : (levAts L lv : sProp 𝕄) ⊢ Pipeline.cellsWaits cfgs (dats m) () 0 c :=
  Pipeline.cellsWaits_intro cfgs (dats m) () 0 c fun w s t =>
    wait_stage c _ (by fin_cases w <;> fin_cases s <;> decide) _ (by
      rcases t with ⟨_ | _, ht⟩
      · exact Or.inl rfl
      · exact Or.inr rfl)

/-- The contents of the array of window `w` after the run. -/
def finalA (c : Dev nD) (w : Fin cfg0.W) : Buf (Elt F) ((cfg0.win w).arr.view.loc (c : Thread nD τ)) := (dats m 0 c).arrAt w cfg0.N

set_option maxRecDepth 8000 in
/-- From any memory with the semaphores at zero, the program ends with each array as the staging leaves it and the
semaphores at zero. -/
theorem run_main : θ_run defs (onTc (τ := τ) (main (F := F))) ⟨m, fun _ => 0, ρ⟩
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ Variants.none m ρ main
    (hmain := fun _ => rfl)
    (hbody := body_obligation m) (hne := block_pos0) (harr := arr_whole0) (hstage := stage_whole0) (hshare := share_eq m)
    (hdistinct := winFacts0.arr_inj)
    (O₀ := owe₀) (howed₀ := fun _ => rfl) (howedN := fun _ => rfl)
    (L := L) (lv := lv) (hL := L_of_ne) (hwaits := waits m)
    (G := mint (staged m)) (G' := fun c => iprop(∃ K, ghost (staged m) K c)) (u₀ := u₀)
    (hu₀ := by
      unfold u₀
      iintro Hu
      ihave H := (ownU_pair _ _) $$ Hu
      icases H with ⟨HP, HX⟩
      imod (fund_cells (staged m)) $$ HX with HG
      imodintro
      isplitl [HP]; · iexact HP
      iexact HG)
    (hglob := deal (staged m))
    (hA := fun _ _ => rfl) (hpf := fun _ k => k.elim0)
    (X := fun c => iprop((∃ K, ghost (staged m) K c) ∗ credits c)) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-! ## The arrays after the run -/

theorem final_x (c : Dev nD) : finalA m c (0 : Fin 6) = m ((c : Thread nD τ).loc main_arg0) := (dats m 0 c).arrAt_in (0 : Fin 6) rfl _
theorem final_wq (c : Dev nD) : finalA m c (1 : Fin 6) = m ((c : Thread nD τ).loc main_arg1) := (dats m 0 c).arrAt_in (1 : Fin 6) rfl _
theorem final_k (c : Dev nD) : finalA m c (2 : Fin 6) = m ((c : Thread nD τ).loc main_arg2) := (dats m 0 c).arrAt_in (2 : Fin 6) rfl _
theorem final_v (c : Dev nD) : finalA m c (3 : Fin 6) = m ((c : Thread nD τ).loc main_arg3) := (dats m 0 c).arrAt_in (3 : Fin 6) rfl _
theorem final_wo (c : Dev nD) : finalA m c (4 : Fin 6) = m ((c : Thread nD τ).loc main_arg4) := (dats m 0 c).arrAt_in (4 : Fin 6) rfl _

/-- The result array holds the window written back. -/
theorem final_out (c : Dev nD) : finalA m c (5 : Fin 6) = result m c := by
  refine (dats m 0 c).arrAt_eq_of_after_last (5 : Fin 6) t0_0 (by decide +kernel) _ fun j => ?_
  rfl

/-- Block zero begins at position zero. -/
theorem from_zero {n k x : ℕ} (h : n = 0) : n * k + x = x := by rw [h, Nat.zero_mul, Nat.zero_add]

theorem staged_x (c : Dev nD) : (staged m c).x = m ((c : Thread nD τ).loc main_arg0) := by
  funext j; refine congrArg (m ((c : Thread nD τ).loc main_arg0)) (funext fun a => Fin.ext ?_); blk_simp; exact from_zero rfl
theorem staged_wq (c : Dev nD) : (staged m c).wq = m ((c : Thread nD τ).loc main_arg1) := by
  funext j; refine congrArg (m ((c : Thread nD τ).loc main_arg1)) (funext fun a => Fin.ext ?_); blk_simp; exact from_zero rfl
theorem staged_k (c : Dev nD) : (staged m c).k = m ((c : Thread nD τ).loc main_arg2) := by
  funext j; refine congrArg (m ((c : Thread nD τ).loc main_arg2)) (funext fun a => Fin.ext ?_); blk_simp; exact from_zero rfl
theorem staged_v (c : Dev nD) : (staged m c).v = m ((c : Thread nD τ).loc main_arg3) := by
  funext j; refine congrArg (m ((c : Thread nD τ).loc main_arg3)) (funext fun a => Fin.ext ?_); blk_simp; exact from_zero rfl
theorem staged_wo (c : Dev nD) : (staged m c).wo = m ((c : Thread nD τ).loc main_arg4) := by
  funext j; refine congrArg (m ((c : Thread nD τ).loc main_arg4)) (funext fun a => Fin.ext ?_); blk_simp; exact from_zero rfl

end Cert.KernelIdeal.Exchange

end
-- ==== Proof.Frames.lean ====
/-
# The frames

Both kernels end with their arguments unchanged and every semaphore at zero: the run is the same for every choice of the
float values.  The reference has no semaphores, and only computes.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Proof

open Idealize.ShloMosaic Idealize.ShloMosaic.TcCoe Idealize.SL.Sem
open Cert.KernelIdeal.Exchange

attribute [local instance] Cert.Kernel.Gen.facts Cert.KernelIdeal.Gen.facts Cert.ReferenceIdeal.Gen.facts

/-- The kernel's run, result and arguments, over any float values. -/
theorem run_kernel {F : FTy → Type} [FloatOps F]
    (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩
      (fun r => (∀ c : Dev Cert.KernelIdeal.nD,
        r.2.mem ((c.tc : Thread Cert.KernelIdeal.nD Cert.KernelIdeal.τ).loc Cert.KernelIdeal.main_v1) = result m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
        ∧ r.2.sem = fun _ => 0) :=
  (θ_run (Cert.KernelIdeal.defs (F := F)) _ _).mono
    (fun _ h => ⟨fun c => ⟨(h.1 c (5 : Fin 6)).trans (final_out m c), (h.1 c (0 : Fin 6)).trans (final_x m c), (h.1 c (1 : Fin 6)).trans (final_wq m c),
      (h.1 c (2 : Fin 6)).trans (final_k m c), (h.1 c (3 : Fin 6)).trans (final_v m c), (h.1 c (4 : Fin 6)).trans (final_wo m c)⟩, h.2⟩)
    (run_main m g)

/-- The two printed kernels have the same bodies, -/
theorem same_bodies : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

/-- and so are the same program. -/
theorem same_defs : Cert.Kernel.defs (F := Bits) = Cert.KernelIdeal.defs (F := Bits) := by
  unfold Cert.Kernel.defs Cert.KernelIdeal.defs
  rw [same_bodies]
  rfl

/-- The kernel as printed keeps its arguments and ends with its semaphores at zero. -/
theorem frame_kernel : Cert.quiescent_Kernel := by
  intro m g _
  rw [same_defs]
  exact (θ_run (Cert.KernelIdeal.defs (F := Bits)) _ _).mono (fun _ h => ⟨fun c => (h.1 c).2, h.2⟩) (run_kernel (F := Bits) m g)

/-- So does the kernel over the extended reals, -/
theorem frame_kernelIdeal : Cert.quiescent_KernelIdeal := fun m g _ =>
  (θ_run (Cert.KernelIdeal.defs (F := Ideal)) _ _).mono (fun _ h => ⟨fun c => (h.1 c).2, h.2⟩) (run_kernel (F := Ideal) m g)

/-- and the reference. -/
theorem frame_referenceIdeal : Cert.quiescent_ReferenceIdeal := fun m g _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m g)

end Cert.Proof

end
-- ==== Proof.Attention.lean ====
/-
# One row of attention, in two spellings

The kernel weighs the 128 keys of a row's group by the exponentials of their scores and divides by the weights' sum at the end.
The reference scores all 512 keys, sets those outside the group to −∞, subtracts the greatest score, and divides each weight.
For finite scores the two are equal, whatever the values are.
-/
module

public import Idealize.ShloMosaic.Lib.Pointwise

@[expose] public section

noncomputable section

namespace Cert.Attention

open Idealize.ShloMosaic

/-- Key `j` of group `g`: the group is the blocks `g` and `g + 4` of 64 positions. -/
def key (g : Fin 4) (j : Fin 128) : Fin 512 := ⟨g.val * 64 + j.val / 64 * 256 + j.val % 64, by omega⟩

/-- The kernel's row: the group's values weighted by the exponentials of their scores. -/
def grouped (s v : Fin 512 → EReal) (g : Fin 4) : EReal :=
  (∑ j : Fin 128, Ideal.exp (s (key g j)) * v (key g j)) * Ideal.div 1 (∑ j : Fin 128, Ideal.exp (s (key g j)))

/-- The greatest score of a row. -/
def top (s : Fin 512 → EReal) : EReal := Finset.univ.fold max ⊥ s

/-- The reference's row: the values weighted by the scores' softmax. -/
def softmaxed (s v : Fin 512 → EReal) : EReal :=
  ∑ j : Fin 512, v j * Ideal.div (Ideal.exp (s j - top s)) (∑ j' : Fin 512, Ideal.exp (s j' - top s))

/-- The scores with those outside group `g` at −∞. -/
def masked (s : Fin 512 → EReal) (g : Fin 4) (j : Fin 512) : EReal := if j.val / 64 % 4 = g.val then s j else ⊥

theorem key_group (g : Fin 4) (j : Fin 128) : (key g j).val / 64 % 4 = g.val := by
  simp only [key]; omega

theorem key_injective (g : Fin 4) : Function.Injective (key g) := by
  intro a b h
  have := congrArg Fin.val h
  simp only [key] at this
  exact Fin.ext (by omega)

theorem key_onto (g : Fin 4) (i : Fin 512) (h : i.val / 64 % 4 = g.val) : ∃ j, key g j = i :=
  ⟨⟨i.val / 256 * 64 + i.val % 64, by omega⟩, Fin.ext (by simp only [key]; omega)⟩

/-- A sum over all positions whose terms outside the group are zero is a sum over the group. -/
theorem sum_group (g : Fin 4) (f : Fin 512 → EReal) (hf : ∀ j : Fin 512, j.val / 64 % 4 ≠ g.val → f j = 0) :
    ∑ j : Fin 512, f j = ∑ j : Fin 128, f (key g j) := by
  refine (Finset.sum_of_injOn (key g) ((key_injective g).injOn) (fun _ _ => Finset.mem_coe.2 (Finset.mem_univ _)) ?_ fun _ _ => rfl).symm
  intro i _ hi
  refine hf i fun h => hi ?_
  obtain ⟨j, hj⟩ := key_onto g i h
  exact ⟨j, Finset.mem_coe.2 (Finset.mem_univ _), hj⟩

/-- A nonnegative real factor comes into a sum. -/
theorem sum_mul_real {ι : Type} (t : Finset ι) (f : ι → EReal) (r : ℝ) (hr : 0 ≤ r) :
    (∑ i ∈ t, f i) * (r : EReal) = ∑ i ∈ t, f i * (r : EReal) := by
  classical
  induction t using Finset.induction_on with
  | empty => simp
  | insert a t ha ih =>
    rw [Finset.sum_insert ha, Finset.sum_insert ha, ← ih, mul_comm, mul_comm (f a), mul_comm (∑ i ∈ t, f i)]
    exact EReal.left_distrib_of_nonneg_of_ne_top (EReal.coe_nonneg.2 hr) (EReal.coe_ne_top r) _ _

/-- A sum of reals is a real. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- Division by a real that is not zero. -/
theorem div_real (x : EReal) {r : ℝ} (hr : r ≠ 0) : Ideal.div x (r : EReal) = x * ((r⁻¹ : ℝ) : EReal) := by
  unfold Ideal.div
  rw [if_neg (EReal.coe_ne_zero.2 hr), EReal.coe_inv]

/-- The greatest of the masked scores is finite. -/
theorem top_masked (r : Fin 512 → ℝ) (g : Fin 4) : ∃ μ : ℝ, top (masked (fun j => (r j : EReal)) g) = μ := by
  have hb : top (masked (fun j => (r j : EReal)) g) ≠ ⊥ := by
    refine ne_of_gt (lt_of_lt_of_le (EReal.bot_lt_coe (r (key g 0))) ?_)
    refine (Finset.le_fold_max _).2 (.inr ⟨key g 0, Finset.mem_univ _, ?_⟩)
    rw [masked, if_pos (key_group g 0)]
  have ht : top (masked (fun j => (r j : EReal)) g) ≠ ⊤ := by
    refine ne_of_lt ((Finset.fold_max_lt _).2 ⟨bot_lt_top, fun j _ => ?_⟩)
    unfold masked
    split
    · exact EReal.coe_lt_top _
    · exact bot_lt_top
  exact ⟨_, (EReal.coe_toReal ht hb).symm⟩

/-- The two spellings of a row are equal for finite scores. -/
theorem grouped_eq (s v : Fin 512 → EReal) (g : Fin 4) (hs : ∀ j, ∃ r : ℝ, s j = r) :
    grouped s v g = softmaxed (masked s g) v := by
  obtain ⟨r, hr⟩ : ∃ r : Fin 512 → ℝ, s = fun j => (r j : EReal) :=
    ⟨fun j => (hs j).choose, funext fun j => (hs j).choose_spec⟩
  subst hr
  obtain ⟨μ, hμ⟩ := top_masked r g
  have hin : ∀ j, Ideal.exp (masked (fun j => (r j : EReal)) g (key g j) - (μ : EReal)) = ((Real.exp (r (key g j) - μ) : ℝ) : EReal) := by
    intro j
    rw [masked, if_pos (key_group g j), ← EReal.coe_sub, Ideal.exp_coe]
  have hout : ∀ j : Fin 512, j.val / 64 % 4 ≠ g.val → Ideal.exp (masked (fun j => (r j : EReal)) g j - (μ : EReal)) = 0 := by
    intro j hj
    rw [masked, if_neg hj, sub_eq_add_neg, EReal.bot_add, Ideal.exp_bot]
  have hsum : ∑ j : Fin 512, Ideal.exp (masked (fun j => (r j : EReal)) g j - (μ : EReal))
      = ((∑ j : Fin 128, Real.exp (r (key g j) - μ) : ℝ) : EReal) := by
    rw [sum_group g _ hout, coe_sum]
    exact Finset.sum_congr rfl fun j _ => hin j
  have hδ : 0 < ∑ j : Fin 128, Real.exp (r (key g j) - μ) := Finset.sum_pos (fun j _ => Real.exp_pos _) ⟨0, Finset.mem_univ _⟩
  have hε : 0 < ∑ j : Fin 128, Real.exp (r (key g j)) := Finset.sum_pos (fun j _ => Real.exp_pos _) ⟨0, Finset.mem_univ _⟩
  have hw : ∀ j : Fin 128, Real.exp (r (key g j) - μ) * (∑ j' : Fin 128, Real.exp (r (key g j') - μ))⁻¹
      = Real.exp (r (key g j)) * (∑ j' : Fin 128, Real.exp (r (key g j')))⁻¹ := by
    intro j
    simp only [Real.exp_sub, ← Finset.sum_div]
    have := Real.exp_pos μ
    field_simp
  unfold grouped softmaxed
  rw [hμ, hsum]
  simp only [Ideal.exp_coe, ← coe_sum, div_real _ hδ.ne', div_real _ hε.ne', one_mul]
  rw [sum_mul_real _ _ _ (inv_nonneg.2 hε.le), sum_group g _ fun j hj => by rw [hout j hj, zero_mul, mul_zero]]
  refine Finset.sum_congr rfl fun j _ => ?_
  rw [hin, ← EReal.coe_mul, hw, EReal.coe_mul, mul_right_comm, mul_comm]

end Cert.Attention

end
-- ==== Proof.Product.lean ====
/-
# A device's product at an index

Row `i` of the product is the attention of position `i` with the 128 keys of its group, head by head, times the device's
rows of the output weights.
-/
module

public import proofs.«01_k».proof.Proof.Batch
public import proofs.«01_k».proof.Proof.Attention

@[expose] public section

noncomputable section

namespace Cert.KernelIdeal.Exchange

open Cert.KernelIdeal Cert.KernelIdeal.Gen
open Idealize.ShloMosaic Idealize.ShloMosaic.TcCoe

/-! ## The order of the rows -/

/-- The position that regrouped row `r` comes from. -/
def from_ (r : Fin 512) : Fin 512 := ⟨r.val / 128 * 64 + r.val % 128 / 64 * 256 + r.val % 64, by omega⟩

/-- The regrouped row that position `i` goes to. -/
def to_ (i : Fin 512) : Fin 512 := ⟨i.val / 64 % 4 * 128 + i.val / 256 * 64 + i.val % 64, by omega⟩

/-- Going there and coming back. -/
theorem from_to : ∀ i : Fin 512, from_ (to_ i) = i := by decide +kernel

/-- The regrouped queries. -/
theorem regroup_at (q : FVec Ideal S512x512 .f32) (r n : Fin 512) : regroup q (ix2 r n) = q (ix2 (from_ r) n) := by
  pointwise [regroup]
  split_ifs <;> exact congrArg (fun t => q (ix2 t n)) (Fin.ext (by simp only [from_]; omega))

/-- The regrouped keys or values. -/
theorem regroupHeads_at (k : FVec Ideal S512x8x64 .f32) (r : Fin 512) (h : Fin 8) (d : Fin 64) :
    regroupHeads k (ix3 r h d) = k (ix3 (from_ r) h d) := by
  pointwise [regroupHeads]
  split_ifs <;> exact congrArg (fun t => k (ix3 t h d)) (Fin.ext (by simp only [from_]; omega))

/-- The rows back in their own order. -/
theorem ungroup_at (q : FVec Ideal S512x512 .f32) (i n : Fin 512) : ungroup q (ix2 i n) = q (ix2 (to_ i) n) := by
  pointwise [ungroup]
  split_ifs <;> exact congrArg (fun t => q (ix2 t n)) (Fin.ext (by simp only [to_]; omega))

/-! ## Attention -/

/-- The scaled score of regrouped rows `r` and `r'` in head `h`. -/
def rowScore (q : FVec Ideal S512x512 .f32) (k : FVec Ideal S512x8x64 .f32) (h : Fin 8) (r r' : Fin 512) : EReal :=
  (∑ d : Fin 64, q (ix2 r ⟨64 * h.val + d.val, by omega⟩) * k (ix3 r' h d)) * Ideal.ofBits .f32 0x3E000000#32

/-- Row `j` of group `g`. -/
abbrev inGroup (g : Fin 4) (j : Fin 128) : Fin 512 := ⟨128 * g.val + j.val, by omega⟩

/-- Attention of row `j` within group `g`. -/
theorem piece_at (q : FVec Ideal S512x512 .f32) (k v : FVec Ideal S512x8x64 .f32) (g : Fin 4) (h : Fin 8) (j : Fin 128) (d : Fin 64) :
    piece q k v g h (ix2 j d) =
      (∑ j' : Fin 128, Ideal.exp (rowScore q k h (inGroup g j) (inGroup g j')) * v (ix3 (inGroup g j') h d))
        * Ideal.div 1 (∑ j' : Fin 128, Ideal.exp (rowScore q k h (inGroup g j) (inGroup g j'))) := by
  pointwise [piece, attend, scoreExp, rowScore]

/-- All rows of a head. -/
theorem headOut_at (q : FVec Ideal S512x512 .f32) (k v : FVec Ideal S512x8x64 .f32) (h : Fin 8) (r : Fin 512) (d : Fin 64) :
    headOut q k v h (ix2 r d) = piece q k v ⟨r.val / 128, by omega⟩ h (ix2 ⟨r.val % 128, by omega⟩ d) := by
  pointwise [headOut]
  split_ifs <;>
    exact congrArg₂ (fun (g : Fin 4) (t : Fin 128) => piece q k v g h (ix2 t d)) (Fin.ext (by simp; omega)) (Fin.ext (by simp; omega))

/-- All heads. -/
theorem headsOut_at (q : FVec Ideal S512x512 .f32) (k v : FVec Ideal S512x8x64 .f32) (r n : Fin 512) :
    headsOut q k v (ix2 r n) = headOut q k v ⟨n.val / 64, by omega⟩ (ix2 r ⟨n.val % 64, by omega⟩) := by
  pointwise [headsOut]
  split_ifs <;>
    exact congrArg₂ (fun (h : Fin 8) (t : Fin 64) => headOut q k v h (ix2 r t)) (Fin.ext (by simp; omega)) (Fin.ext (by simp; omega))

/-! ## A batch entry -/

/-- The queries. -/
theorem queries_at (wq : Vec Ideal S768x512 .f32) (x : Vec Ideal S1x512x768 .f32) (i n : Fin 512) :
    queries wq x (ix2 i n) = ∑ e : Fin 768, x (ix3 0 i e) * wq (ix2 e n) := by
  pointwise [queries]

/-- A batch entry's product. -/
theorem batch_at (wq : Vec Ideal S768x512 .f32) (wo : Vec Ideal S512x768 .f32) (x : Vec Ideal S1x512x768 .f32)
    (k v : Vec Ideal S1x512x8x64 .f32) (i : Fin 512) (e : Fin 768) :
    batch wq wo x k v (ix3 0 i e) = ∑ n : Fin 512,
      headsOut (regroup (queries wq x)) (regroupHeads (shapeCast S512x8x64 k shapeCasts_S1x512x8x64_S512x8x64))
        (regroupHeads (shapeCast S512x8x64 v shapeCasts_S1x512x8x64_S512x8x64)) (ix2 (to_ i) n) * wo (ix2 n e) := by
  pointwise [batch]
  simp only [ungroup_at]

/-! ## Loads -/

/-- A load of a rectangle reads the buffer at the rectangle's start plus the position. -/
theorem load_at {F : FTy → Type} (b : Ref sig .tc) (f : b.ty.Contents (Elt F)) {off size : Fin b.ty.shape.rank → ℕ}
    (inb : ∀ a, off a + size a ≤ b.ty.shape.size a) (x : (Rect.unit (s := b.ty.shape) off size inb).shape.Idx) (j : b.ty.shape.Idx)
    (hx : ∀ a, (j a).val = off a + (x a).val) :
    (Memref.whole b : Memref sig .tc _ _ _).view.readAt (Elt F) (Rect.unit (s := b.ty.shape) off size inb).toLoadRect f x = f j := by
  refine congrArg f (funext fun a => Fin.ext ?_)
  rw [hx]
  simp

/-- The device's columns of the query weights. -/
theorem myWq_at (c : Dev nD) (A : Args Ideal) (e : Fin 768) (n : Fin 512) :
    myWq c A (ix2 e n) = A.wq (ix2 e (⟨512 * c.val + n.val, by have : c.val < 4 := c.isLt; omega⟩ : Fin 2048)) := by
  refine load_at cc0_stg1_0 A.wq (k0_off1_inb c) _ _ fun a => ?_
  refine Eq.trans ?_ (congrArg (· + _) (congrFun (k0_off1_eq c) a)).symm
  match a with
  | ⟨0, _⟩ => exact (Nat.zero_add _).symm
  | ⟨1, _⟩ => rfl

/-- The device's rows of the output weights. -/
theorem myWo_at (c : Dev nD) (A : Args Ideal) (n : Fin 512) (e : Fin 768) :
    myWo c A (ix2 n e) = A.wo (ix2 (⟨512 * c.val + n.val, by have : c.val < 4 := c.isLt; omega⟩ : Fin 2048) e) := by
  refine load_at cc0_stg4_0 A.wo (k0_off2_inb c) _ _ fun a => ?_
  refine Eq.trans ?_ (congrArg (· + _) (congrFun (k0_off2_eq c) a)).symm
  match a with
  | ⟨0, _⟩ => rfl
  | ⟨1, _⟩ => exact (Nat.zero_add _).symm

/-! ## The product -/

/-- The scaled score of positions `i` and `j` in the device's head `h`, batch entry `b`. -/
def score (c : Dev nD) (x : FVec Ideal S2x512x768 .f32) (wq : FVec Ideal S768x2048 .f32) (k : FVec Ideal S2x512x8x64 .f32)
    (b : Fin 2) (i : Fin 512) (h : Fin 8) (j : Fin 512) : EReal :=
  (∑ d : Fin 64, (∑ e : Fin 768, x (ix3 b i e) *
      wq (ix2 e ⟨512 * c.val + (64 * h.val + d.val), by have : c.val < 4 := c.isLt; omega⟩)) * k (ix4 b j h d))
    * Ideal.ofBits .f32 0x3E000000#32

/-- The attention of a batch entry, given what the loads of that entry read. -/
theorem attention_at (c : Dev nD) (A : Args Ideal) (b : Fin 2) (x : Vec Ideal S1x512x768 .f32) (k v : Vec Ideal S1x512x8x64 .f32)
    (hx : ∀ i e, x (ix3 0 i e) = A.x (ix3 b i e)) (hk : ∀ j h d, k (ix4 0 j h d) = A.k (ix4 b j h d))
    (hv : ∀ j h d, v (ix4 0 j h d) = A.v (ix4 b j h d)) (i : Fin 512) (n : Fin 512) :
    headsOut (regroup (queries (myWq c A) x)) (regroupHeads (shapeCast S512x8x64 k shapeCasts_S1x512x8x64_S512x8x64))
        (regroupHeads (shapeCast S512x8x64 v shapeCasts_S1x512x8x64_S512x8x64)) (ix2 (to_ i) n)
      = Attention.grouped (score c A.x A.wq A.k b i ⟨n.val / 64, by omega⟩)
          (fun j => A.v (ix4 b j (⟨n.val / 64, by omega⟩ : Fin 8) (⟨n.val % 64, by omega⟩ : Fin 64))) ⟨i.val / 64 % 4, by omega⟩ := by
  rw [headsOut_at, headOut_at, piece_at]
  have hrow : inGroup ⟨(to_ i).val / 128, by omega⟩ ⟨(to_ i).val % 128, by omega⟩ = to_ i := Fin.ext (by simp only [inGroup]; omega)
  have hkey : ∀ j : Fin 128, from_ (inGroup ⟨(to_ i).val / 128, by omega⟩ j) = Attention.key ⟨i.val / 64 % 4, by omega⟩ j := fun j =>
    Fin.ext (by simp only [inGroup, from_, to_, Attention.key]; omega)
  have hcast : ∀ (w : Vec Ideal S1x512x8x64 .f32) (j : Fin 512) (h : Fin 8) (d : Fin 64),
      shapeCast S512x8x64 w shapeCasts_S1x512x8x64_S512x8x64 (ix3 j h d) = w (ix4 0 j h d) := by
    intro w j h d; pointwise
  rw [hrow]
  unfold rowScore Attention.grouped score
  simp only [regroup_at, regroupHeads_at, from_to, hkey, hcast, queries_at, myWq_at, hx, hk, hv]

/-- A batch entry's product, given what the loads of that entry read. -/
theorem entry_at (c : Dev nD) (A : Args Ideal) (b : Fin 2) (x : Vec Ideal S1x512x768 .f32) (k v : Vec Ideal S1x512x8x64 .f32)
    (hx : ∀ i e, x (ix3 0 i e) = A.x (ix3 b i e)) (hk : ∀ j h d, k (ix4 0 j h d) = A.k (ix4 b j h d))
    (hv : ∀ j h d, v (ix4 0 j h d) = A.v (ix4 b j h d)) (i : Fin 512) (e : Fin 768) :
    batch (myWq c A) (myWo c A) x k v (ix3 0 i e) = ∑ n : Fin 512,
      Attention.grouped (score c A.x A.wq A.k b i ⟨n.val / 64, by omega⟩)
          (fun j => A.v (ix4 b j (⟨n.val / 64, by omega⟩ : Fin 8) (⟨n.val % 64, by omega⟩ : Fin 64))) ⟨i.val / 64 % 4, by omega⟩
        * (A.wo (ix2 (⟨512 * c.val + n.val, by have : c.val < 4 := c.isLt; omega⟩ : Fin 2048) e) : EReal) := by
  rw [batch_at]
  exact Finset.sum_congr rfl fun n _ => by rw [attention_at c A b x k v hx hk hv, myWo_at]

/-- Device `c`'s product, before any exchange. -/
theorem product_at (c : Dev nD) (A : Args Ideal) (b : Fin 2) (i : Fin 512) (e : Fin 768) :
    product c A (ix3 b i e) = ∑ n : Fin 512,
      Attention.grouped (score c A.x A.wq A.k b i ⟨n.val / 64, by omega⟩)
          (fun j => A.v (ix4 b j (⟨n.val / 64, by omega⟩ : Fin 8) (⟨n.val % 64, by omega⟩ : Fin 64))) ⟨i.val / 64 % 4, by omega⟩
        * (A.wo (ix2 (⟨512 * c.val + n.val, by have : c.val < 4 := c.isLt; omega⟩ : Fin 2048) e) : EReal) := by
  have hin : inEntry (ix3 b i e) = ix3 0 i e := funext fun a => match a with
    | ⟨0, _⟩ => rfl
    | ⟨1, _⟩ => rfl
    | ⟨2, _⟩ => rfl
  show (if b.val = 0 then batch0 c A (inEntry (ix3 b i e)) else batch1 c A (inEntry (ix3 b i e))) = _
  rw [hin]
  match b with
  | ⟨0, _⟩ =>
    rw [if_pos rfl]
    refine entry_at c A 0 _ _ _ (fun i e => ?_) (fun j h d => ?_) (fun j h d => ?_) i e
    · refine load_at cc0_stg0_0 A.x inb_S2x512x768_S1x512x768_0_0_0 _ _ fun a => ?_
      match a with
      | ⟨0, _⟩ => rfl
      | ⟨1, _⟩ => exact (Nat.zero_add _).symm
      | ⟨2, _⟩ => exact (Nat.zero_add _).symm
    · refine load_at cc0_stg2_0 A.k inb_S2x512x8x64_S1x512x8x64_0_0_0_0 _ _ fun a => ?_
      match a with
      | ⟨0, _⟩ => rfl
      | ⟨1, _⟩ => exact (Nat.zero_add _).symm
      | ⟨2, _⟩ => exact (Nat.zero_add _).symm
      | ⟨3, _⟩ => exact (Nat.zero_add _).symm
    · refine load_at cc0_stg3_0 A.v inb_S2x512x8x64_S1x512x8x64_0_0_0_0 _ _ fun a => ?_
      match a with
      | ⟨0, _⟩ => rfl
      | ⟨1, _⟩ => exact (Nat.zero_add _).symm
      | ⟨2, _⟩ => exact (Nat.zero_add _).symm
      | ⟨3, _⟩ => exact (Nat.zero_add _).symm
  | ⟨1, _⟩ =>
    rw [if_neg Nat.one_ne_zero]
    refine entry_at c A 1 _ _ _ (fun i e => ?_) (fun j h d => ?_) (fun j h d => ?_) i e
    · refine load_at cc0_stg0_0 A.x inb_S2x512x768_S1x512x768_1_0_0 _ _ fun a => ?_
      match a with
      | ⟨0, _⟩ => rfl
      | ⟨1, _⟩ => exact (Nat.zero_add _).symm
      | ⟨2, _⟩ => exact (Nat.zero_add _).symm
    · refine load_at cc0_stg2_0 A.k inb_S2x512x8x64_S1x512x8x64_1_0_0_0 _ _ fun a => ?_
      match a with
      | ⟨0, _⟩ => rfl
      | ⟨1, _⟩ => exact (Nat.zero_add _).symm
      | ⟨2, _⟩ => exact (Nat.zero_add _).symm
      | ⟨3, _⟩ => exact (Nat.zero_add _).symm
    · refine load_at cc0_stg3_0 A.v inb_S2x512x8x64_S1x512x8x64_1_0_0_0 _ _ fun a => ?_
      match a with
      | ⟨0, _⟩ => rfl
      | ⟨1, _⟩ => exact (Nat.zero_add _).symm
      | ⟨2, _⟩ => exact (Nat.zero_add _).symm
      | ⟨3, _⟩ => exact (Nat.zero_add _).symm

end Cert.KernelIdeal.Exchange

end
-- ==== Proof.Sum.lean ====
/-
# The exchanges sum the devices' products

Over the extended reals, where addition is commutative and associative, the window of every device after the last
round holds at every position the sum of the four devices' products at that position.  The rows are followed in
blocks of 64: every rectangle that is exchanged starts at a multiple of 64 and has 64 or 128 rows.
-/
module

public import proofs.«01_k».proof.Proof.Product
public import Idealize.ShloMosaic.Lib.Pointwise

@[expose] public section

noncomputable section

namespace Cert.KernelIdeal.Exchange

open Cert.KernelIdeal Cert.KernelIdeal.Gen
open Idealize.ShloMosaic Idealize.ShloMosaic.TcCoe Idealize.ShloMosaic.Pointwise

/-! ## One exchange -/

/-- Whether row `r` is one of the `n` rows from row `o` on. -/
def within (o n r : ℕ) : Prop := o ≤ r ∧ r < o + n

instance (o n r : ℕ) : Decidable (within o n r) := inferInstanceAs (Decidable (_ ∧ _))

section Rows

variable {n : ℕ}

/-- `n` rows of both batch entries. -/
abbrev rows (off : Fin 3 → ℕ) (inb : ∀ a, off a + (![2, n, 768] : Fin 3 → ℕ) a ≤ S2x512x768.size a) : Rect S2x512x768 :=
  Rect.unit (s := S2x512x768) off ![2, n, 768] inb

/-- The sum of two arrays of extended reals. -/
def plus {ι : Type} (f g : ι → EReal) : ι → EReal := fun x => f x + g x

/-- What a window holds at a position. -/
def winAt (f : Win Ideal) (b : Fin 2) (r : Fin 512) (e : Fin 768) : EReal := f (ix3 b r e)

/-- Rows of one window that replace the same rows of another. -/
theorem copied (f g : Win Ideal) {off off' : Fin 3 → ℕ} (inb inb') (o : ℕ) (ho : off = ![0, o, 0]) (ho' : off' = ![0, o, 0])
    (b : Fin 2) (r : Fin 512) (e : Fin 768) :
    winAt (put f (rows (n := n) off inb) (get g (rows (n := n) off' inb'))) b r e
      = if within o n r.val then winAt g b r e else winAt f b r e := by
  subst ho ho'
  split_ifs with h
  · have h : o ≤ r.val ∧ r.val < o + n := h
    have hx : ∀ a : Fin 3, ((ix3 b r e : S2x512x768.Idx) a).val = (![0, o, 0] : Fin 3 → ℕ) a +
        ((ix3 b (⟨r.val - o, by omega⟩ : Fin n) e : (⟨3, ![2, n, 768]⟩ : Shape).Idx) a).val := fun a => match a with
      | ⟨0, _⟩ => (Nat.zero_add _).symm
      | ⟨1, _⟩ => (Nat.add_sub_cancel' h.1).symm
      | ⟨2, _⟩ => (Nat.zero_add _).symm
    refine (put_in f inb _ _ (ix3 b (⟨r.val - o, by omega⟩ : Fin n) e) hx).trans ?_
    exact load_at cc0_stg5_0 g inb' _ _ hx
  · refine put_out f inb _ _ 1 ?_
    show r.val < o ∨ o + n ≤ r.val
    simp only [within] at h; omega

/-- Rows of one window added to the same rows of another. -/
theorem summed (f g : Win Ideal) {off off' : Fin 3 → ℕ} (inb inb') (o : ℕ) (ho : off = ![0, o, 0]) (ho' : off' = ![0, o, 0])
    (w : (rows (n := n) off inb).shape.Idx → Elt Ideal .f32)
    (hw : w = plus (get f (rows off inb)) (get g (rows off' inb'))) (b : Fin 2) (r : Fin 512) (e : Fin 768) :
    winAt (put f (rows (n := n) off inb) w) b r e
      = if within o n r.val then winAt f b r e + winAt g b r e else winAt f b r e := by
  subst hw
  refine Eq.trans ?_ (copied f (plus f g) inb inb o ho ho b r e)
  subst ho ho'
  rfl

end Rows

/-- A sum of two blocks of 128 rows. -/
theorem pay117_eq (v w : Vec Ideal S2x128x768 .f32) : k0_pay117 v w = plus v w := by
  funext x; pointwise [k0_pay117, plus]

theorem pay118_eq (v w : Vec Ideal S2x128x768 .f32) : k0_pay118 v w = plus v w := by
  funext x; pointwise [k0_pay118, plus]

theorem pay119_eq (v w : Vec Ideal S2x64x768 .f32) : k0_pay119 v w = plus v w := by
  funext x; pointwise [k0_pay119, plus]

theorem pay120_eq (v w : Vec Ideal S2x64x768 .f32) : k0_pay120 v w = plus v w := by
  funext x; pointwise [k0_pay120, plus]

/-! ## The rows of the stages -/

/-- The first row of what device `c` receives in exchange `i`. -/
def start (i : Fin 8) (c : Dev nD) : ℕ :=
  (![![0, 128, 128, 0], ![256, 256, 384, 384], ![0, 128, 192, 64], ![256, 320, 384, 448],
    ![64, 192, 128, 0], ![320, 256, 448, 384], ![128, 0, 0, 128], ![384, 384, 256, 256]] : Fin 8 → Fin 4 → ℕ) i c

variable (P : Dev nD → Win Ideal) (c : Dev nD) (b : Fin 2) (r : Fin 512) (e : Fin 768)

theorem stage1a_at : winAt (stage1a P c) b r e =
    if within (start 0 c) 128 r.val then winAt (P c) b r e + winAt (P (p1 c)) b r e else winAt (P c) b r e := by
  rw [stage1a_eq, land0_eq]
  exact summed (n := 128) (P c) (P (p1 c)) (k0_off5_inb c) (k0_off3_inb (p1 c)) _ (by revert c; decide +kernel)
    (by revert c; decide +kernel) _ (pay117_eq _ _) b r e

theorem stage1_at : winAt (stage1 P c) b r e =
    if within (start 1 c) 128 r.val then winAt (stage1a P c) b r e + winAt (P (p2 c)) b r e else winAt (stage1a P c) b r e := by
  rw [stage1_eq, land1_eq]
  exact summed (n := 128) (stage1a P c) (P (p2 c)) (k0_off6_inb c) (k0_off4_inb (p2 c)) _ (by revert c; decide +kernel)
    (by revert c; decide +kernel) _ (pay118_eq _ _) b r e

theorem stage2a_at : winAt (stage2a P c) b r e =
    if within (start 2 c) 64 r.val then winAt (stage1 P c) b r e + winAt (stage1 P (p2 c)) b r e
    else winAt (stage1 P c) b r e := by
  rw [stage2a_eq, land2_eq]
  exact summed (n := 64) (stage1 P c) (stage1 P (p2 c)) (k0_off9_inb c) (k0_off7_inb (p2 c)) _ (by revert c; decide +kernel)
    (by revert c; decide +kernel) _ (pay119_eq _ _) b r e

theorem stage2_at : winAt (stage2 P c) b r e =
    if within (start 3 c) 64 r.val then winAt (stage2a P c) b r e + winAt (stage1 P (p1 c)) b r e
    else winAt (stage2a P c) b r e := by
  rw [stage2_eq, land3_eq]
  exact summed (n := 64) (stage2a P c) (stage1 P (p1 c)) (k0_off10_inb c) (k0_off8_inb (p1 c)) _ (by revert c; decide +kernel)
    (by revert c; decide +kernel) _ (pay120_eq _ _) b r e

theorem stage3_at : winAt (stage3 P c) b r e =
    if within (start 5 c) 64 r.val then winAt (stage2 P (p1 c)) b r e
    else if within (start 4 c) 64 r.val then winAt (stage2 P (p2 c)) b r e else winAt (stage2 P c) b r e := by
  rw [stage3_eq, land4_eq, land5_eq]
  refine Eq.trans (copied (n := 64) _ (stage2 P (p1 c)) (k0_off14_inb c) (k0_off12_inb (p1 c)) (start 5 c) (by revert c; decide +kernel)
    (by revert c; decide +kernel) b r e) ?_
  exact congrArg (ite _ _) (copied (n := 64) _ (stage2 P (p2 c)) (k0_off13_inb c) (k0_off11_inb (p2 c)) (start 4 c) (by revert c; decide +kernel)
    (by revert c; decide +kernel) b r e)

theorem stage4_at : winAt (stage4 P c) b r e =
    if within (start 7 c) 128 r.val then winAt (stage3 P (p2 c)) b r e
    else if within (start 6 c) 128 r.val then winAt (stage3 P (p1 c)) b r e else winAt (stage3 P c) b r e := by
  rw [stage4_eq, land6_eq, land7_eq]
  refine Eq.trans (copied (n := 128) _ (stage3 P (p2 c)) (k0_off18_inb c) (k0_off16_inb (p2 c)) (start 7 c) (by revert c; decide +kernel)
    (by revert c; decide +kernel) b r e) ?_
  exact congrArg (ite _ _) (copied (n := 128) _ (stage3 P (p1 c)) (k0_off17_inb c) (k0_off15_inb (p1 c)) (start 6 c) (by revert c; decide +kernel)
    (by revert c; decide +kernel) b r e)

/-! ## The sum -/

/-- Whether a row is within a rectangle depends on the row's block of 64 only. -/
theorem within_block (i : Fin 8) (n : ℕ) (hn : n = 64 ∨ n = 128) : within (start i c) n r.val ↔ within (start i c) n (r.val / 64 * 64) := by
  have h : start i c % 64 = 0 := by revert i c; decide
  unfold within
  omega

/-- After the last round every device holds the sum of the four products. -/
theorem stage4_sum : winAt (stage4 P c) b r e = ∑ d : Dev nD, winAt (P d) b r e := by
  have hsum : ∑ d : Dev nD, winAt (P d) b r e =
      winAt (P 0) b r e + winAt (P 1) b r e + winAt (P 2) b r e + winAt (P 3) b r e := Fin.sum_univ_four _
  rw [hsum]
  have h64 : ∀ i d, within (start i d) 64 r.val ↔ within (start i d) 64 (r.val / 64 * 64) := fun i d => within_block d r i 64 (Or.inl rfl)
  have h128 : ∀ i d, within (start i d) 128 r.val ↔ within (start i d) 128 (r.val / 64 * 64) := fun i d => within_block d r i 128 (Or.inr rfl)
  have hq : r.val / 64 < 8 := by omega
  generalize r.val / 64 = q at h64 h128 hq
  have hc : c = 0 ∨ c = 1 ∨ c = 2 ∨ c = 3 := by revert c; decide
  have h1 : p1 0 = 1 ∧ p1 1 = 0 ∧ p1 2 = 3 ∧ p1 3 = 2 := by decide
  have h2 : p2 0 = 3 ∧ p2 1 = 2 ∧ p2 2 = 1 ∧ p2 3 = 0 := by decide
  rcases hc with rfl | rfl | rfl | rfl <;> interval_cases q <;>
    simp +decide only [stage4_at, stage3_at, stage2_at, stage2a_at, stage1_at, stage1a_at, h64, h128, h1, h2, if_true, if_false] <;>
    ac_rfl

end Cert.KernelIdeal.Exchange

end
-- ==== Proof.Reference.lean ====
/-
# The reference at an index

The reference's composed term, named piece by piece, and each piece read at an index: the mask says which blocks of 64
positions attend to each other, the rest is a masked softmax between two products.
-/
module

public import proofs.«01_k».proof.Proof.Gen.ReferenceIdeal.Run
public import Idealize.ShloMosaic.Lib.Pointwise
public import Idealize.ShloMosaic.Lib.Routing.OpsOrder
public import Idealize.ShloMosaic.Lib.Tactic.CleanTypes

@[expose] public section

noncomputable section

namespace Cert.ReferenceIdeal.Plain

open Cert.ReferenceIdeal Cert.ReferenceIdeal.Gen Cert.ReferenceIdeal.Value
open Idealize.ShloMosaic Idealize.ShloMosaic.TcCoe

/-! ## The mask -/

/-- The block of 64 that each position lies in, by floor division. -/
def blockOf : IVec S512 32 :=
  select
    (andi
      (cmpi .ne (signi (iotaInDim S512 32 0)) (broadcastInDim S512 ![] bcast_S_S512 (signi (id (constantI S_ 32 64#32)))))
      (cmpi .ne (Host.remsi (iotaInDim S512 32 0) (broadcastInDim S512 ![] bcast_S_S512 (id (constantI S_ 32 64#32))))
        (broadcastInDim S512 ![] bcast_S_S512 (constantI S_ 32 0#32))))
    (subi (Host.divsi (iotaInDim S512 32 0) (broadcastInDim S512 ![] bcast_S_S512 (id (constantI S_ 32 64#32))))
      (broadcastInDim S512 ![] bcast_S_S512 (constantI S_ 32 1#32)))
    (Host.divsi (iotaInDim S512 32 0) (broadcastInDim S512 ![] bcast_S_S512 (id (constantI S_ 32 64#32))))

/-- The divisor 4 of the remainders. -/
def four : IVec S_ 32 :=
  select (cmpi .eq (id (constantI S_ 32 4#32)) (constantI S_ 32 0#32)) (constantI S_ 32 1#32) (id (constantI S_ 32 4#32))

/-- The remainder by 4 of each word of an array, with the divisor's sign. -/
def modFour (s : Shape) (hb : S_.BroadcastsInDim s (![] : Fin 0 → Fin s.rank)) (q : IVec s 32) : IVec s 32 :=
  select
    (andi
      (cmpi .ne (cmpi .slt (Host.remsi q (broadcastInDim s ![] hb four)) (broadcastInDim s ![] hb (constantI S_ 32 0#32)))
        (broadcastInDim s ![] hb (cmpi .slt four (constantI S_ 32 0#32))))
      (cmpi .ne (Host.remsi q (broadcastInDim s ![] hb four)) (broadcastInDim s ![] hb (constantI S_ 32 0#32))))
    (addi (Host.remsi q (broadcastInDim s ![] hb four)) (broadcastInDim s ![] hb four))
    (Host.remsi q (broadcastInDim s ![] hb four))

/-- The query position's block, as a column. -/
def rowBlock : IVec S512x1 32 := broadcastInDim S512x1 ![0] bcast_S512_S512x1_0 blockOf

/-- The key position's block, as a row. -/
def colBlock : IVec S1x512 32 := broadcastInDim S1x512 ![1] bcast_S512_S1x512_1 blockOf

/-- Which keys a query attends to. -/
def maskBits : IVec S512x512 1 :=
  ori
    (cmpi .eq (broadcastInDim S512x512 ![0, 1] bcast_S512x1_S512x512_0_1 rowBlock)
      (broadcastInDim S512x512 ![0, 1] bcast_S1x512_S512x512_0_1 colBlock))
    (cmpi .eq (broadcastInDim S512x512 ![0, 1] bcast_S1x512_S512x512_0_1 (modFour S1x512 bcast_S_S1x512 colBlock))
      (broadcastInDim S512x512 ![0, 1] bcast_S512x1_S512x512_0_1 (modFour S512x1 bcast_S_S512x1 rowBlock)))

/-- Whether a query attends to any key. -/
def keepBits : IVec S512 1 := Host.reduce IntOp.ori maskBits (constantI S_ 1 0#1) reducesTo_S512x512_S512_d1 h_S_

/-! ## The floats -/

variable {F : FTy → Type} [FloatOps F]

/-- The scaled scores, masked. -/
def scores (x : FVec F S2x512x768 .f32) (wq : FVec F S768x2048 .f32) (k : FVec F S2x512x32x64 .f32) : FVec F S2x32x512x512 .f32 :=
  select
    (broadcastInDim S2x32x512x512 ![0, 1, 2, 3] bcast_S1x1x512x512_S2x32x512x512_0_1_2_3
      (broadcastInDim S1x1x512x512 ![2, 3] bcast_S512x512_S1x1x512x512_2_3 maskBits))
    (mulf
      (Host.dotGeneral dot_S2x512x32x64_S2x512x32x64_S2x32x512x512_3_3_1_1_02_02 none
        (shapeCast _ (Host.dotGeneral dot_S2x512x768_S768x2048_S2x512x2048_2_0_01_1_n_n none x wq)
          shapeCasts_S2x512x2048_S2x512x32x64) k)
      (broadcastInDim S2x32x512x512 ![] bcast_S_S2x32x512x512 (constant S_ .f32 0x3E000000#32)))
    (broadcastInDim S2x32x512x512 ![] bcast_S_S2x32x512x512 (id (constant S_ .f32 0xFF800000#32)))

/-- The exponentials of the scores, each row's greatest subtracted first. -/
def expo (s : FVec F S2x32x512x512 .f32) : FVec F S2x32x512x512 .f32 :=
  Host.exp (subf s (broadcastInDim S2x32x512x512 ![0, 1, 2, 3] bcast_S2x32x512x1_S2x32x512x512_0_1_2_3
    (broadcastInDim S2x32x512x1 ![0, 1, 2] bcast_S2x32x512_S2x32x512x1_0_1_2
      (Host.reduce FloatOps.maximumf s (constant S_ .f32 0xFF800000#32) reducesTo_S2x32x512x512_S2x32x512_d3 h_S_))))

/-- Each row of weights divided by its sum. -/
def normalized (w : FVec F S2x32x512x512 .f32) : FVec F S2x32x512x512 .f32 :=
  select
    (broadcastInDim S2x32x512x512 ![0, 1, 2, 3] bcast_S1x1x512x1_S2x32x512x512_0_1_2_3
      (broadcastInDim S1x1x512x1 ![2] bcast_S512_S1x1x512x1_2 keepBits))
    (Host.divf w
      (broadcastInDim S2x32x512x512 ![0, 1, 2, 3] bcast_S2x32x512x1_S2x32x512x512_0_1_2_3
        (select
          (broadcastInDim S2x32x512x1 ![0, 1, 2, 3] bcast_S1x1x512x1_S2x32x512x1_0_1_2_3
            (broadcastInDim S1x1x512x1 ![2] bcast_S512_S1x1x512x1_2 keepBits))
          (broadcastInDim S2x32x512x1 ![0, 1, 2] bcast_S2x32x512_S2x32x512x1_0_1_2
            (Host.reduceAdd w (constant S_ .f32 0x00000000#32) reducesTo_S2x32x512x512_S2x32x512_d3 h_S_))
          (broadcastInDim S2x32x512x1 ![] bcast_S_S2x32x512x1 (id (constant S_ .f32 0x3F800000#32))))))
    (broadcastInDim S2x32x512x512 ![] bcast_S_S2x32x512x512 (id (constant S_ .f32 0x00000000#32)))

/-- The weighted values, and their product with the output weights. -/
def project (w : FVec F S2x32x512x512 .f32) (v : FVec F S2x512x32x64 .f32) (wo : FVec F S2048x768 .f32) : FVec F S2x512x768 .f32 :=
  Host.dotGeneral dot_S2x512x2048_S2048x768_S2x512x768_2_0_01_1_n_n none
    (shapeCast _
      (transpose S2x512x32x64 [0, 3, 1, 2]
        (Host.dotGeneral dot_S2x512x32x64_S2x32x512x512_S2x32x64x512_1_3_3_2_02_01 none v w)
        transposes_S2x32x64x512_S2x512x32x64_0_3_1_2)
      shapeCasts_S2x512x32x64_S2x512x2048)
    wo

set_option maxRecDepth 8192 in
/-- The reference's result is these pieces put together. -/
theorem res_eq (m : (ℓ : Loc nD τ sig) → Buf (Elt F) ℓ) (c : Dev nD) :
    res_main_v39 m c = project
      (normalized (expo (scores (m ((c.tc : Thread nD τ).loc main_arg0)) (m ((c.tc : Thread nD τ).loc main_arg1)) (m ((c.tc : Thread nD τ).loc main_arg2)))))
      (m ((c.tc : Thread nD τ).loc main_arg3)) (m ((c.tc : Thread nD τ).loc main_arg4)) := rfl

/-! ## Read at an index -/

/-- Position `i` lies in block `i / 64`. -/
theorem blockOf_at : ∀ i : Fin 512, blockOf (ix1 i) = BitVec.ofNat 32 (i.val / 64) := by decide +kernel

/-- The remainder by 4 of the query's block, -/
theorem rowMod_at : ∀ i : Fin 512,
    modFour S512x1 bcast_S_S512x1 rowBlock (ix2 i 0) = BitVec.ofNat 32 (i.val / 64 % 4) := by decide +kernel

/-- and of the key's. -/
theorem colMod_at : ∀ j : Fin 512,
    modFour S1x512 bcast_S_S1x512 colBlock (ix2 0 j) = BitVec.ofNat 32 (j.val / 64 % 4) := by decide +kernel

/-- The two comparisons of blocks say no more than the second. -/
theorem compare_blocks : ∀ a b : Fin 8,
    IntOp.ori (IntOp.cmpi .eq (BitVec.ofNat 32 a.val) (BitVec.ofNat 32 b.val))
      (IntOp.cmpi .eq (BitVec.ofNat 32 (b.val % 4)) (BitVec.ofNat 32 (a.val % 4)))
      = BitVec.ofBool (decide (b.val % 4 = a.val % 4)) := by decide +kernel

/-- A query attends to the keys whose block has the same remainder by 4. -/
theorem maskBits_at (i j : Fin 512) :
    maskBits (ix2 i j) = BitVec.ofBool (decide (j.val / 64 % 4 = i.val / 64 % 4)) := by
  have h := compare_blocks ⟨i.val / 64, by omega⟩ ⟨j.val / 64, by omega⟩
  have h1 : rowBlock (ix2 i 0) = BitVec.ofNat 32 (i.val / 64) := by
    rw [← blockOf_at]; pointwise [rowBlock]
  have h2 : colBlock (ix2 0 j) = BitVec.ofNat 32 (j.val / 64) := by
    rw [← blockOf_at]; pointwise [colBlock]
  rw [← h]
  pointwise [maskBits]
  rw [h1, h2, rowMod_at, colMod_at]

/-- Every query attends to some key: itself. -/
theorem keepBits_at (i : Fin 512) : keepBits (ix1 i) = 1#1 := by
  pointwise [keepBits]
  rw [Routing.fold_ori]
  exact ⟨i, Finset.mem_univ i, by rw [maskBits_at, decide_eq_true rfl]; rfl⟩

/-- The pattern of −∞. -/
theorem ofBits_bot : Ideal.ofBits .f32 0xFF800000#32 = ⊥ := by simp [Ideal.ofBits, Ideal.ieee]

/-- A scaled score, masked. -/
theorem scores_at (x : FVec Ideal S2x512x768 .f32) (wq : FVec Ideal S768x2048 .f32) (k : FVec Ideal S2x512x32x64 .f32)
    (b : Fin 2) (h : Fin 32) (i j : Fin 512) :
    scores x wq k (ix4 b h i j) =
      if j.val / 64 % 4 = i.val / 64 % 4 then
        (∑ d : Fin 64, (∑ e : Fin 768, x (ix3 b i e) * wq (ix2 e ⟨h.val * 64 + d.val, by omega⟩)) * k (ix4 b j h d))
          * Ideal.ofBits .f32 0x3E000000#32
      else ⊥ := by
  pointwise [scores]
  rw [maskBits_at]
  by_cases hm : j.val / 64 % 4 = i.val / 64 % 4
  · rw [if_pos hm, decide_eq_true hm]
    exact if_pos rfl
  · rw [if_neg hm, decide_eq_false hm]
    exact (if_neg (by decide)).trans ofBits_bot

/-- An exponential. -/
theorem expo_at (s : FVec Ideal S2x32x512x512 .f32) (b : Fin 2) (h : Fin 32) (i j : Fin 512) :
    expo s (ix4 b h i j) =
      Ideal.exp (s (ix4 b h i j) - Finset.univ.fold max ⊥ fun j' : Fin 512 => s (ix4 b h i j')) := by
  rw [← ofBits_bot]
  pointwise [expo]

/-- A weight. -/
theorem normalized_at (w : FVec Ideal S2x32x512x512 .f32) (b : Fin 2) (h : Fin 32) (i j : Fin 512) :
    normalized w (ix4 b h i j) = Ideal.div (w (ix4 b h i j)) (∑ j' : Fin 512, w (ix4 b h i j')) := by
  pointwise [normalized]
  rw [keepBits_at]
  rfl

/-- The projection. -/
theorem project_at (w : FVec Ideal S2x32x512x512 .f32) (v : FVec Ideal S2x512x32x64 .f32) (wo : FVec Ideal S2048x768 .f32)
    (b : Fin 2) (i : Fin 512) (e : Fin 768) :
    project w v wo (ix3 b i e) =
      ∑ n : Fin 2048, (∑ j : Fin 512, v (ix4 b j ⟨n.val / 64, by omega⟩ ⟨n.val % 64, by omega⟩) * w (ix4 b ⟨n.val / 64, by omega⟩ i j))
        * wo (ix2 n e) := by
  pointwise [project]

end Cert.ReferenceIdeal.Plain

end
-- ==== Proof.Finite.lean ====
/-
# What the precondition gives

The precondition says that every entry of the activations, of the query weights and of the device's keys is below
infinity in absolute value.  Over the extended reals: each is a real number, so every score is one.
-/
module

public import Idealize.ShloMosaic.Lib.ReduceAll
public import Idealize.ShloMosaic.Lib.Pointwise
public import proofs.«01_k».proof.Pre_scores_finite_KernelIdeal
public import proofs.«01_k».proof.Pre_scores_finite_ReferenceIdeal

@[expose] public section

noncomputable section

namespace Cert.Finite

open Idealize.ShloMosaic

/-! ## Real entries -/

/-- The pattern of +∞. -/
theorem ofBits_top : Ideal.ofBits .f32 0x7F800000#32 = ⊤ := by simp [Ideal.ofBits, Ideal.ieee]

/-- The scale of the scores is a real number. -/
theorem scale_real : ∃ r : ℝ, Ideal.ofBits .f32 0x3E000000#32 = r := by
  simp [Ideal.ofBits, Ideal.ieee]
  exact ⟨_, (EReal.coe_mul _ _).symm⟩

/-- A value whose absolute value is below +∞ is a real number. -/
theorem real_of_abs (x : EReal) (h : max x (-x) < ⊤) : ∃ r : ℝ, x = r := by
  induction x using EReal.rec with
  | bot => simp at h
  | coe r => exact ⟨r, rfl⟩
  | top => simp at h

/-- The comparison the precondition makes at an entry. -/
theorem real_of_bit (x : Ideal .f32) (h : FloatOps.cmpf (F := Ideal) .olt (FloatOps.hostAbsf x) (FloatOps.ofBits .f32 0x7F800000#32) = 1#1) :
    ∃ r : ℝ, (x : EReal) = r := by
  have h' : Ideal.cmp .olt (max (x : EReal) (-x)) (Ideal.ofBits .f32 0x7F800000#32) = 1#1 := h
  rw [ofBits_top] at h'
  exact real_of_abs x ((Ideal.cmp_olt_eq_one _ _).1 h')

/-- Products and sums of real numbers are real. -/
theorem real_mul {x y : EReal} (hx : ∃ r : ℝ, x = r) (hy : ∃ r : ℝ, y = r) : ∃ r : ℝ, x * y = r := by
  obtain ⟨r, rfl⟩ := hx
  obtain ⟨s, rfl⟩ := hy
  exact ⟨r * s, (EReal.coe_mul r s).symm⟩

theorem real_sum {ι : Type} (s : Finset ι) (f : ι → EReal) (h : ∀ i, ∃ r : ℝ, f i = r) : ∃ r : ℝ, ∑ i ∈ s, f i = r := by
  classical
  induction s using Finset.induction_on with
  | empty => exact ⟨0, by simp⟩
  | insert a s ha ih =>
    obtain ⟨r, hr⟩ := h a
    obtain ⟨t, ht⟩ := ih
    exact ⟨r + t, by rw [Finset.sum_insert ha, hr, ht, EReal.coe_add]⟩

/-! ## The precondition -/

theorem facts_kernel : Cert.Pre_scores_finite_KernelIdeal.Facts where
  bcast_S_S2x512x768 := by decide
  reducesTo_S2x512x768_S_d0_1_2 := by decide
  h_S_ := by decide
  bcast_S_S768x2048 := by decide
  reducesTo_S768x2048_S_d0_1 := by decide
  bcast_S_S2x512x8x64 := by decide
  reducesTo_S2x512x8x64_S_d0_1_2_3 := by decide

theorem facts_reference : Cert.Pre_scores_finite_ReferenceIdeal.Facts where
  bcast_S_S2x512x768 := by decide
  reducesTo_S2x512x768_S_d0_1_2 := by decide
  h_S_ := by decide
  bcast_S_S768x2048 := by decide
  reducesTo_S768x2048_S_d0_1 := by decide
  bcast_S_S2x512x32x64 := by decide
  reducesTo_S2x512x32x64_S_d0_1_2_3 := by decide

open Cert.Pre_scores_finite_KernelIdeal in
/-- Where the precondition holds of a device's blocks, the activations, the query weights and the keys are real. -/
theorem real_of_pre [Facts] (x : FVec Ideal S2x512x768 .f32) (wq : FVec Ideal S768x2048 .f32)
    (k v : FVec Ideal S2x512x8x64 .f32) (wo : FVec Ideal S2048x768 .f32) (h : fn x wq k v wo = fun _ => 1#1) :
    (∀ j, ∃ r : ℝ, (x j : EReal) = r) ∧ (∀ j, ∃ r : ℝ, (wq j : EReal) = r) ∧ ∀ j, ∃ r : ℝ, (k j : EReal) = r := by
  haveI : Subsingleton S_.Idx := ⟨fun a b => funext fun i => i.elim0⟩
  have e := congrFun h (fun i => i.elim0 : S_.Idx)
  obtain ⟨e12, e3⟩ := IntOp.andi_eq_one.1 e
  obtain ⟨e1, e2⟩ := IntOp.andi_eq_one.1 e12
  exact ⟨fun j => real_of_bit _ (Host.reduce_andi_all _ _ _ _ _ e1 j), fun j => real_of_bit _ (Host.reduce_andi_all _ _ _ _ _ e2 j),
    fun j => real_of_bit _ (Host.reduce_andi_all _ _ _ _ _ e3 j)⟩

end Cert.Finite

end
-- ==== Proof.Equation.lean ====
/-
# The kernel's result is the reference's

The reference sums over all 2048 (head, component) pairs at once; the kernel's devices take 512 each and add up.
Within a pair the two spellings of the attention row are equal because the scores are real.
-/
module

public import proofs.«01_k».proof.Proof.Sum
public import proofs.«01_k».proof.Proof.Reference
public import proofs.«01_k».proof.Proof.Finite

@[expose] public section

noncomputable section

namespace Cert.Equation

open Idealize.ShloMosaic Idealize.ShloMosaic.Pointwise
open Cert.KernelIdeal (nD S2x512x8x64)
open Cert.KernelIdeal.Exchange (score product product_at stage4 stage4_sum Args Win)
open Cert.ReferenceIdeal (S2x512x768 S768x2048 S2048x768 S2x512x32x64)
open Cert.ReferenceIdeal.Plain

variable (x : FVec Ideal S2x512x768 .f32) (wq : FVec Ideal S768x2048 .f32) (k v : FVec Ideal S2x512x32x64 .f32)
  (wo : FVec Ideal S2048x768 .f32)

/-- The scaled score of positions `i` and `j` in head `h` of the whole array, batch entry `b`. -/
def wholeScore (b : Fin 2) (h : Fin 32) (i j : Fin 512) : EReal :=
  (∑ d : Fin 64, (∑ e : Fin 768, x (ix3 b i e) * wq (ix2 e ⟨h.val * 64 + d.val, by omega⟩)) * k (ix4 b j h d))
    * Ideal.ofBits .f32 0x3E000000#32

/-- It is a real number if the activations, the query weights and the keys are. -/
theorem wholeScore_real (hx : ∀ j, ∃ r : ℝ, (x j : EReal) = r) (hwq : ∀ j, ∃ r : ℝ, (wq j : EReal) = r)
    (hk : ∀ j, ∃ r : ℝ, (k j : EReal) = r) (b : Fin 2) (h : Fin 32) (i j : Fin 512) : ∃ r : ℝ, wholeScore x wq k b h i j = r :=
  Finite.real_mul (Finite.real_sum _ _ fun _ => Finite.real_mul (Finite.real_sum _ _ fun _ => Finite.real_mul (hx _) (hwq _)) (hk _))
    Finite.scale_real

/-- The term of the output's sum that a head's row and the `n`th row of the output weights make. -/
def term (b : Fin 2) (i : Fin 512) (e : Fin 768) (n : Fin 2048) : EReal :=
  Attention.grouped (wholeScore x wq k b ⟨n.val / 64, by omega⟩ i) (fun j => v (ix4 b j ⟨n.val / 64, by omega⟩ ⟨n.val % 64, by omega⟩))
    ⟨i.val / 64 % 4, by omega⟩ * wo (ix2 n e)

/-- The reference's result at an index. -/
theorem reference_at (hx : ∀ j, ∃ r : ℝ, (x j : EReal) = r) (hwq : ∀ j, ∃ r : ℝ, (wq j : EReal) = r)
    (hk : ∀ j, ∃ r : ℝ, (k j : EReal) = r) (b : Fin 2) (i : Fin 512) (e : Fin 768) :
    project (normalized (expo (scores x wq k))) v wo (ix3 b i e) = ∑ n : Fin 2048, term x wq k v wo b i e n := by
  rw [project_at]
  refine Finset.sum_congr rfl fun n _ => ?_
  unfold term
  rw [Attention.grouped_eq _ _ _ (wholeScore_real x wq k hx hwq hk b _ i)]
  refine congrArg (· * wo (ix2 n e)) ?_
  have hs : ∀ h j, scores x wq k (ix4 b h i j) = Attention.masked (wholeScore x wq k b h i) ⟨i.val / 64 % 4, by omega⟩ j :=
    fun h j => scores_at x wq k b h i j
  simp only [normalized_at, expo_at, hs]
  rfl

/-! ## A device's part -/

/-- A sum over all pairs, device by device. -/
theorem sum_devices (f : Fin 2048 → EReal) :
    ∑ n : Fin 2048, f n = ∑ c : Dev nD, ∑ n : Fin 512, f ⟨512 * c.val + n.val, by have : c.val < 4 := c.isLt; omega⟩ := by
  rw [← Fintype.sum_prod_type' (f := fun (c : Fin 4) (n : Fin 512) => f ⟨512 * c.val + n.val, by omega⟩)]
  refine (Fintype.sum_equiv (finProdFinEquiv (m := 4) (n := 512)) _ _ fun p => congrArg f (Fin.ext ?_)).symm
  exact Nat.add_comm _ _

/-- Head `h` of device `c`, counted in the whole array. -/
def headOf (c : Dev nD) (h : Fin 8) : Fin 32 := ⟨8 * c.val + h.val, by have : c.val < 4 := c.isLt; omega⟩

/-- A device's scores are the whole array's at its own heads. -/
theorem score_eq (c : Dev nD) (kc : FVec Ideal S2x512x8x64 .f32) (hk : ∀ b j h d, kc (ix4 b j h d) = k (ix4 b j (headOf c h) d))
    (b : Fin 2) (i : Fin 512) (h : Fin 8) : score c x wq kc b i h = wholeScore x wq k b (headOf c h) i := by
  funext j
  refine congrArg (· * Ideal.ofBits .f32 0x3E000000#32) (Finset.sum_congr rfl fun d _ => ?_)
  rw [hk]
  refine congrArg (· * k (ix4 b j (headOf c h) d)) (Finset.sum_congr rfl fun e _ => ?_)
  exact congrArg (fun t => x (ix3 b i e) * wq (ix2 e t)) (Fin.ext (by simp only [headOf]; omega))

/-- A device's product at an index is its part of the sum. -/
theorem product_part (c : Dev nD) (A : Args Ideal) (hx : A.x = x) (hwq : A.wq = wq) (hwo : A.wo = wo)
    (hk : ∀ b j h d, A.k (ix4 b j h d) = k (ix4 b j (headOf c h) d)) (hv : ∀ b j h d, A.v (ix4 b j h d) = v (ix4 b j (headOf c h) d))
    (b : Fin 2) (i : Fin 512) (e : Fin 768) :
    product c A (ix3 b i e)
      = ∑ n : Fin 512, term x wq k v wo b i e ⟨512 * c.val + n.val, by have : c.val < 4 := c.isLt; omega⟩ := by
  refine Eq.trans (b := (_ : EReal)) (product_at c A b i e) (Finset.sum_congr rfl fun n _ => ?_)
  have hc : c.val < 4 := c.isLt
  have hh : headOf c ⟨n.val / 64, by omega⟩ = ⟨(512 * c.val + n.val) / 64, by omega⟩ := Fin.ext (by simp only [headOf]; omega)
  have hd : (⟨n.val % 64, by omega⟩ : Fin 64) = ⟨(512 * c.val + n.val) % 64, by omega⟩ := Fin.ext (by simp only; omega)
  unfold term
  rw [hx, hwq, hwo, score_eq x wq k c A.k hk]
  simp only [hv]
  rw [hh, hd]

/-- The window of every device after the exchanges is the reference's result. -/
theorem equation (A : Dev nD → Args Ideal) (hx : ∀ c, (A c).x = x) (hwq : ∀ c, (A c).wq = wq) (hwo : ∀ c, (A c).wo = wo)
    (hk : ∀ c b j h d, (A c).k (ix4 b j h d) = k (ix4 b j (headOf c h) d))
    (hv : ∀ c b j h d, (A c).v (ix4 b j h d) = v (ix4 b j (headOf c h) d))
    (rx : ∀ j, ∃ r : ℝ, (x j : EReal) = r) (rwq : ∀ j, ∃ r : ℝ, (wq j : EReal) = r) (rk : ∀ j, ∃ r : ℝ, (k j : EReal) = r) (c : Dev nD) :
    stage4 (fun d => product d (A d)) c = project (normalized (expo (scores x wq k))) v wo := by
  funext j
  obtain ⟨b, i, e, rfl⟩ : ∃ (b : Fin 2) (i : Fin 512) (e : Fin 768), j = (ix3 b i e : S2x512x768.Idx) :=
    ⟨j 0, j 1, j 2, funext fun a => match a with
      | ⟨0, _⟩ => rfl
      | ⟨1, _⟩ => rfl
      | ⟨2, _⟩ => rfl⟩
  refine (stage4_sum (fun d => product d (A d)) c b i e).trans ?_
  rw [reference_at x wq k v wo rx rwq rk, sum_devices]
  exact Finset.sum_congr rfl fun d _ => product_part x wq k v wo d (A d) (hx d) (hwq d) (hwo d) (hk d) (hv d) b i e

end Cert.Equation

end
-- ==== Proof.Value.lean ====
/-
# The value claim

From memories that hold the reference's arrays, each device its part, the kernel ends with the reference's result on
every device.
-/
module

public import proofs.«01_k».proof.Proof.Frames
public import proofs.«01_k».proof.Proof.Equation
public import Idealize.ShloMosaic.Lib.LayoutAt

@[expose] public section

noncomputable section

namespace Cert.Proof

open Idealize.ShloMosaic Idealize.ShloMosaic.TcCoe Idealize.SL.Sem
open Cert.KernelIdeal.Exchange (result staged staged_x staged_wq staged_k staged_v staged_wo)

/-- A device's block of an array of heads, at an index. -/
theorem heads_at (c : Dev Cert.KernelIdeal.nD) (w : FVec Ideal Cert.ReferenceIdeal.S2x512x32x64 .f32) (b : Fin 2) (j : Fin 512) (h : Fin 8) (d : Fin 64) :
    (Layout.block ⟨4, ![2, 512, 8, 64]⟩ ⟨4, ![2, 512, 32, 64]⟩ 2 4 c w : FVec Ideal Cert.KernelIdeal.S2x512x8x64 .f32) (ix4 b j h d)
      = w (ix4 b j (Equation.headOf c h) d) := by
  refine congrArg w (funext fun a => Fin.ext ?_)
  refine (Layout.Tiles.idx_val _ c _ a).trans ?_
  match a with
  | ⟨0, _⟩ => rfl
  | ⟨1, _⟩ => rfl
  | ⟨2, _⟩ => exact congrArg (· + h.val) (Nat.mul_comm _ _)
  | ⟨3, _⟩ => rfl

/-- Every entry of an array of heads lies in some device's block. -/
theorem real_of_blocks (w : FVec Ideal Cert.ReferenceIdeal.S2x512x32x64 .f32)
    (hw : ∀ (c : Dev Cert.KernelIdeal.nD) (b : Fin 2) (j : Fin 512) (h : Fin 8) (d : Fin 64), ∃ r : ℝ, (w (ix4 b j (Equation.headOf c h) d) : EReal) = r)
    (i : Cert.ReferenceIdeal.S2x512x32x64.Idx) : ∃ r : ℝ, (w i : EReal) = r := by
  have hi : i = ix4 (i 0) (i 1) (Equation.headOf ⟨(i 2).val / 8, by have : (i 2).val < 32 := (i 2).isLt; show _ < 4; omega⟩
      ⟨(i 2).val % 8, by omega⟩) (i 3) := funext fun a => match a with
    | ⟨0, _⟩ => rfl
    | ⟨1, _⟩ => rfl
    | ⟨2, _⟩ => Fin.ext (Nat.div_add_mod _ 8).symm
    | ⟨3, _⟩ => rfl
  rw [hi]
  exact hw _ _ _ _ _

/-- The kernel and the reference agree over the extended reals. -/
theorem algebraic : Cert.algebraic_KernelIdeal_ReferenceIdeal_pre_scores_finite_KernelIdeal
    (hPre_scores_finite_KernelIdeal := Finite.facts_kernel) := by
  intro m g m' g' hpre hargs
  haveI := Finite.facts_kernel
  have hreal := fun c => Finite.real_of_pre _ _ _ _ _ (hpre c)
  have hk : ∀ c b j h d, (staged m c).k (ix4 b j h d) = _ := fun c b j h d =>
    (congrFun ((staged_k m c).trans (hargs c).2.2.1) (ix4 b j h d)).trans (heads_at c _ b j h d)
  have hv : ∀ c b j h d, (staged m c).v (ix4 b j h d) = _ := fun c b j h d =>
    (congrFun ((staged_v m c).trans (hargs c).2.2.2.1) (ix4 b j h d)).trans (heads_at c _ b j h d)
  have rk := real_of_blocks _ fun c b j h d => by
    obtain ⟨r, hr⟩ := (hreal c).2.2 (ix4 b j h d)
    exact ⟨r, (heads_at c _ b j h d).symm.trans ((congrFun (hargs c).2.2.1 (ix4 b j h d)).symm.trans hr)⟩
  refine ⟨_, (θ_run (Cert.KernelIdeal.defs (F := Ideal)) _ _).mono (fun r h c => ⟨(h.1 c).1.trans ?_, (h.1 c).2⟩) (run_kernel (F := Ideal) m g),
    (θ_run (Cert.ReferenceIdeal.defs (F := Ideal)) _ _).mono (fun r h => h 0) (Cert.ReferenceIdeal.Value.run (F := Ideal) m' g')⟩
  rw [Cert.ReferenceIdeal.Plain.res_eq]
  exact Equation.equation _ _ _ _ _ (staged m) (fun c => (staged_x m c).trans (hargs c).1) (fun c => (staged_wq m c).trans (hargs c).2.1)
    (fun c => (staged_wo m c).trans (hargs c).2.2.2.2) hk hv
    (fun j => (hargs 0).1 ▸ (hreal 0).1 j) (fun j => (hargs 0).2.1 ▸ (hreal 0).2.1 j) rk c

end Cert.Proof

end
-- ==== Proof.lean ====
/-
# The proof of the claims
-/
module

public import proofs.«01_k».proof.Defs
public import proofs.«01_k».proof.Proof.Value

@[expose] public section

noncomputable section

namespace Cert.Proof

/-- The frames of the three programs, the kernel read over the extended reals, and its agreement with the reference. -/
theorem claim : Cert.Claim :=
  ⟨Cert.Kernel.Gen.facts, Cert.KernelIdeal.Gen.facts, Cert.ReferenceIdeal.Gen.facts, Finite.facts_kernel, Finite.facts_reference,
    frame_kernel, frame_kernelIdeal, fun m g _ => frame_kernelIdeal m g trivial, frame_referenceIdeal,
    fun m g _ => frame_referenceIdeal m g trivial, trivial, algebraic⟩

end Cert.Proof

end
